-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie_at_rank_k [hPre_no_tie_at_rank_k : Cert.Pre_no_tie_at_rank_k.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_at_rank_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_at_rank_k [hPre_no_tie_at_rank_k : Cert.Pre_no_tie_at_rank_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_at_rank_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_no_tie_at_rank_k [hKernelIdeal : Cert.KernelIdeal.Facts] [hPre_no_tie_at_rank_k : Cert.Pre_no_tie_at_rank_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie_at_rank_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_no_tie_at_rank_k [hReferenceIdeal : Cert.ReferenceIdeal.Facts] [hPre_no_tie_at_rank_k : Cert.Pre_no_tie_at_rank_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_at_rank_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_no_tie_at_rank_k [hKernelIdeal : Cert.KernelIdeal.Facts] [hReferenceIdeal : Cert.ReferenceIdeal.Facts] [hPre_no_tie_at_rank_k : Cert.Pre_no_tie_at_rank_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie_at_rank_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_no_tie_at_rank_k : Cert.Pre_no_tie_at_rank_k.Facts),
    quiescent_Kernel (hKernel := hKernel)
    ∧ quiescent_KernelIdeal (hKernelIdeal := hKernelIdeal)
    ∧ quiescent_KernelIdeal_pre_no_tie_at_rank_k (hKernelIdeal := hKernelIdeal) (hPre_no_tie_at_rank_k := hPre_no_tie_at_rank_k)
    ∧ quiescent_ReferenceIdeal (hReferenceIdeal := hReferenceIdeal)
    ∧ quiescent_ReferenceIdeal_pre_no_tie_at_rank_k (hReferenceIdeal := hReferenceIdeal) (hPre_no_tie_at_rank_k := hPre_no_tie_at_rank_k)
    ∧ preserves_Kernel_KernelIdeal
    ∧ algebraic_KernelIdeal_ReferenceIdeal_pre_no_tie_at_rank_k (hKernelIdeal := hKernelIdeal) (hReferenceIdeal := hReferenceIdeal) (hPre_no_tie_at_rank_k := hPre_no_tie_at_rank_k)
-- ==== Pre_no_tie_at_rank_k.lean ====
abbrev S32x12x2048x2 : Shape := ⟨4, ![32, 12, 2048, 2]⟩
abbrev S2048x2000 : Shape := ⟨2, ![2048, 2000]⟩
abbrev S2x65536 : Shape := ⟨2, ![2, 65536]⟩
abbrev S2048x256 : Shape := ⟨2, ![2048, 256]⟩
abbrev S2x64 : Shape := ⟨2, ![2, 64]⟩
abbrev S64x2 : Shape := ⟨2, ![64, 2]⟩
abbrev S256x2048 : Shape := ⟨2, ![256, 2048]⟩
abbrev S2048x2048 : Shape := ⟨2, ![2048, 2048]⟩
abbrev S2048x31 : Shape := ⟨2, ![2048, 31]⟩
abbrev S2048x1 : Shape := ⟨2, ![2048, 1]⟩
abbrev S2048 : Shape := ⟨1, ![2048]⟩
abbrev S_ : Shape := ⟨0, ![]⟩

class Facts : Prop where
  transposes_S2048x256_S256x2048_1_0 : S2048x256.Transposes [1, 0] S256x2048
  sliceFits_S2048x2048_S2048x31 : S2048x2048.Slices (fun _ => 0) S2048x31
  slices_S2048x31_S2048x1_0_29 : S2048x31.Slices ![0, 29] S2048x1
  shapeCasts_S2048x1_S2048 : S2048x1.ShapeCasts S2048
  slices_S2048x31_S2048x1_0_30 : S2048x31.Slices ![0, 30] S2048x1
  bcast_S_S2048 : S_.BroadcastsInDim S2048 (![] : Fin 0 → Fin S2048.rank)
  dot_S2048x256_S256x2048_S2048x2048_1_0_0_1_n_n_wf : DotDims.WF S2048x256 S256x2048 S2048x2048 [1] [0] [0] [1] [] []

variable [Facts]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def fn {F : FTy → Type} [FloatOps F] (main_arg0 : FVec F S32x12x2048x2 .f32) (main_arg1 : FVec F S32x12x2048x2 .f32) (main_arg2 : FVec F S2048x2000 .f32) (main_arg3 : IVec S2x65536 32) (main_arg4 : FVec F S2048x256 .f32) (main_arg5 : FVec F S2048x256 .f32) (main_arg6 : FVec F S2x64 .f32) (main_arg7 : FVec F S64x2 .f32) : IVec S2048 1 :=
  let main_v0 : FVec F S256x2048 .f32 := (transpose S256x2048 [1, 0] · transposes_S2048x256_S256x2048_1_0) main_arg5
  let main_v1 : FVec F S2048x2048 .f32 := (fun l r => Host.dotGeneral dot_S2048x256_S256x2048_S2048x2048_1_0_0_1_n_n none l r) main_arg4 main_v0
  let main_v2 : FVec F S256x2048 .f32 := (transpose S256x2048 [1, 0] · transposes_S2048x256_S256x2048_1_0) main_arg4
  let main_v3 : FVec F S2048x2048 .f32 := (fun l r => Host.dotGeneral dot_S2048x256_S256x2048_S2048x2048_1_0_0_1_n_n none l r) main_arg5 main_v2
  let main_v4 : FVec F S2048x2048 .f32 := subf main_v1 main_v3
  let main_values : FVec F S2048x31 .f32 := (fun x => (Host.topK S2048x31 1 (FloatOps.cmpfTotal .gt) x sliceFits_S2048x2048_S2048x31).1) main_v4
  let main_indices : IVec S2048x31 32 := (fun x => (Host.topK S2048x31 1 (FloatOps.cmpfTotal .gt) x sliceFits_S2048x2048_S2048x31).2) main_v4
  let main_v5 : FVec F S2048x1 .f32 := (extractStridedSlice S2048x1 ![0, 29] · slices_S2048x31_S2048x1_0_29) main_values
  let main_v6 : FVec F S2048 .f32 := shapeCast S2048 main_v5 shapeCasts_S2048x1_S2048
  let main_v7 : FVec F S2048x1 .f32 := (extractStridedSlice S2048x1 ![0, 30] · slices_S2048x31_S2048x1_0_30) main_values
  let main_v8 : FVec F S2048 .f32 := shapeCast S2048 main_v7 shapeCasts_S2048x1_S2048
  let main_v9 : IVec S2048 1 := cmpf .ogt main_v6 main_v8
  let main_cst : FVec F S_ .f32 := constant S_ .f32 0x00000000#32
  let main_v10 : FVec F S2048 .f32 := broadcastInDim S2048 ![] bcast_S_S2048 main_cst
  let main_v11 : IVec S2048 1 := cmpf .ole main_v6 main_v10
  let main_v12 : IVec S2048 1 := ori main_v9 main_v11
  main_v12
-- ==== Kernel.lean ====
abbrev S32x12x2048x2 : Shape := ⟨4, ![32, 12, 2048, 2]⟩
abbrev S2048x2000 : Shape := ⟨2, ![2048, 2000]⟩
abbrev S2x65536 : Shape := ⟨2, ![2, 65536]⟩
abbrev S2048x256 : Shape := ⟨2, ![2048, 256]⟩
abbrev S2x64 : Shape := ⟨2, ![2, 64]⟩
abbrev S64x2 : Shape := ⟨2, ![64, 2]⟩
abbrev S2048x2x32x12 : Shape := ⟨4, ![2048, 2, 32, 12]⟩
abbrev S2048x768 : Shape := ⟨2, ![2048, 768]⟩
abbrev S2048x2048 : Shape := ⟨2, ![2048, 2048]⟩
abbrev S256x256 : Shape := ⟨2, ![256, 256]⟩
abbrev S256x2048 : Shape := ⟨2, ![256, 2048]⟩
abbrev S256x768 : Shape := ⟨2, ![256, 768]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S256x384 : Shape := ⟨2, ![256, 384]⟩
abbrev S1x1 : Shape := ⟨2, ![1, 1]⟩

abbrev nBuf : Space → Nat
  | .hbm => 14
  | .vmem => 14
  | .smem => 0
  | _ => 0

abbrev bufTy : (tb : Table) → Fin (tcTables nBuf tb) → BufTy
  | .hbm, ⟨0, _⟩ => ⟨S32x12x2048x2, .f32⟩
  | .hbm, ⟨1, _⟩ => ⟨S32x12x2048x2, .f32⟩
  | .hbm, ⟨2, _⟩ => ⟨S2048x2000, .f32⟩
  | .hbm, ⟨3, _⟩ => ⟨S2x65536, .i32⟩
  | .hbm, ⟨4, _⟩ => ⟨S2048x256, .f32⟩
  | .hbm, ⟨5, _⟩ => ⟨S2048x256, .f32⟩
  | .hbm, ⟨6, _⟩ => ⟨S2x64, .f32⟩
  | .hbm, ⟨7, _⟩ => ⟨S64x2, .f32⟩
  | .hbm, ⟨8, _⟩ => ⟨S2048x2x32x12, .f32⟩
  | .hbm, ⟨9, _⟩ => ⟨S2048x768, .f32⟩
  | .hbm, ⟨10, _⟩ => ⟨S2048x2048, .f32⟩
  | .hbm, ⟨11, _⟩ => ⟨S2048x768, .f32⟩
  | .hbm, ⟨12, _⟩ => ⟨S2048x2x32x12, .f32⟩
  | .hbm, ⟨13, _⟩ => ⟨S32x12x2048x2, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S2048x256, .f32⟩
  | .local _ .vmem, ⟨5, _⟩ => ⟨S2048x256, .f32⟩
  | .local _ .vmem, ⟨6, _⟩ => ⟨S2048x768, .f32⟩
  | .local _ .vmem, ⟨7, _⟩ => ⟨S2x64, .f32⟩
  | .local _ .vmem, ⟨8, _⟩ => ⟨S64x2, .f32⟩
  | .local _ .vmem, ⟨9, _⟩ => ⟨S256x2048, .f32⟩
  | .local _ .vmem, ⟨10, _⟩ => ⟨S256x2048, .f32⟩
  | .local _ .vmem, ⟨11, _⟩ => ⟨S256x768, .f32⟩
  | .local _ .vmem, ⟨12, _⟩ => ⟨S256x768, .f32⟩
  | .local _ .vmem, ⟨13, _⟩ => ⟨S256x128, .f32⟩
  | _, _ => ⟨S32x12x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x12x2048x2 : Shape := ⟨4, ![32, 12, 2048, 2]⟩
abbrev S2048x2000 : Shape := ⟨2, ![2048, 2000]⟩
abbrev S2x65536 : Shape := ⟨2, ![2, 65536]⟩
abbrev S2048x256 : Shape := ⟨2, ![2048, 256]⟩
abbrev S2x64 : Shape := ⟨2, ![2, 64]⟩
abbrev S64x2 : Shape := ⟨2, ![64, 2]⟩
abbrev S256x2048 : Shape := ⟨2, ![256, 2048]⟩
abbrev S2048x2048 : Shape := ⟨2, ![2048, 2048]⟩
abbrev S_ : Shape := ⟨0, ![]⟩
abbrev S2048x30 : Shape := ⟨2, ![2048, 30]⟩
abbrev S2048 : Shape := ⟨1, ![2048]⟩
abbrev S2048x1 : Shape := ⟨2, ![2048, 1]⟩
abbrev S2048x30x1 : Shape := ⟨3, ![2048, 30, 1]⟩
abbrev S2048x30x2 : Shape := ⟨3, ![2048, 30, 2]⟩
abbrev S32x12x2x2048 : Shape := ⟨4, ![32, 12, 2, 2048]⟩
abbrev S32x12x2048x64 : Shape := ⟨4, ![32, 12, 2048, 64]⟩

abbrev nBuf : Space → Nat
  | .hbm => 58
  | .vmem => 0
  | .smem => 0
  | _ => 0

abbrev bufTy : (tb : Table) → Fin (tcTables nBuf tb) → BufTy
  | .hbm, ⟨0, _⟩ => ⟨S32x12x2048x2, .f32⟩
  | .hbm, ⟨1, _⟩ => ⟨S32x12x2048x2, .f32⟩
  | .hbm, ⟨2, _⟩ => ⟨S2048x2000, .f32⟩
  | .hbm, ⟨3, _⟩ => ⟨S2x65536, .i32⟩
  | .hbm, ⟨4, _⟩ => ⟨S2048x256, .f32⟩
  | .hbm, ⟨5, _⟩ => ⟨S2048x256, .f32⟩
  | .hbm, ⟨6, _⟩ => ⟨S2x64, .f32⟩
  | .hbm, ⟨7, _⟩ => ⟨S64x2, .f32⟩
  | .hbm, ⟨8, _⟩ => ⟨S256x2048, .f32⟩
  | .hbm, ⟨9, _⟩ => ⟨S2048x2048, .f32⟩
  | .hbm, ⟨10, _⟩ => ⟨S256x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x30, .f32⟩
  | .hbm, ⟨21, _⟩ => ⟨S2048x30, .i32⟩
  | .hbm, ⟨22, _⟩ => ⟨S2048, .i32⟩
  | .hbm, ⟨23, _⟩ => ⟨S2048x1, .i32⟩
  | .hbm, ⟨24, _⟩ => ⟨S_, .f32⟩
  | .hbm, ⟨25, _⟩ => ⟨S2048x2048, .f32⟩
  | .hbm, ⟨26, _⟩ => ⟨S_, .i32⟩
  | .hbm, ⟨27, _⟩ => ⟨S2048x1, .i32⟩
  | .hbm, ⟨28, _⟩ => ⟨S2048x1, .i1⟩
  | .hbm, ⟨29, _⟩ => ⟨S_, .i32⟩
  | .hbm, ⟨30, _⟩ => ⟨S2048x1, .i32⟩
  | .hbm, ⟨31, _⟩ => ⟨S2048x1, .i32⟩
  | .hbm, ⟨32, _⟩ => ⟨S2048x1, .i32⟩
  | .hbm, ⟨33, _⟩ => ⟨S_, .i32⟩
  | .hbm, ⟨34, _⟩ => ⟨S2048x30, .i32⟩
  | .hbm, ⟨35, _⟩ => ⟨S2048x30, .i1⟩
  | .hbm, ⟨36, _⟩ => ⟨S_, .i32⟩
  | .hbm, ⟨37, _⟩ => ⟨S2048x30, .i32⟩
  | .hbm, ⟨38, _⟩ => ⟨S2048x30, .i32⟩
  | .hbm, ⟨39, _⟩ => ⟨S2048x30, .i32⟩
  | .hbm, ⟨40, _⟩ => ⟨S2048x30, .i32⟩
  | .hbm, ⟨41, _⟩ => ⟨S2048x30x1, .i32⟩
  | .hbm, ⟨42, _⟩ => ⟨S2048x30x1, .i32⟩
  | .hbm, ⟨43, _⟩ => ⟨S2048x30x2, .i32⟩
  | .hbm, ⟨44, _⟩ => ⟨S2048x2048, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x2048, .f32⟩
  | .hbm, ⟨52, _⟩ => ⟨S2048x2048, .f32⟩
  | .hbm, ⟨53, _⟩ => ⟨S32x12x2x2048, .f32⟩
  | .hbm, ⟨54, _⟩ => ⟨S32x12x2048x2, .f32⟩
  | .hbm, ⟨55, _⟩ => ⟨S32x12x2048x64, .f32⟩
  | .hbm, ⟨56, _⟩ => ⟨S32x12x2048x64, .f32⟩
  | .hbm, ⟨57, _⟩ => ⟨S32x12x2048x2, .f32⟩
  | _, _ => ⟨S32x12x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_values : Ref sig .tc := ⟨.hbm, 20, rfl⟩
abbrev main_indices : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Proof.BodyIdeal.lean ====
/- The kernel's body and its launch: what one grid point computes as named functions of its input blocks (`Body.scr`,
   `Body.adjBlk`, `Body.outBlk`), the body's triple in two halves around the data-dependent branch, and the run of the
   whole program with its frame. -/
module

public import proofs.«01_k».proof.Proof.Gen.KernelIdeal.Frame
public import proofs.«01_k».proof.Proof.Gen.KernelIdeal.Skeleton
public import Idealize.ShloMosaic.Lib.WholeRead
public import Idealize.ShloMosaic.Lib.Claim
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the first half computes -/

/-- The block of logits: rows of `M1` against `M2` less rows of `M2` against `M1`. -/
def logits (x0 x1 : Vec F S256x256 .f32) (x2 x3 : Vec F S2048x256 .f32) : FVec F S256x2048 .f32 := k0_pay28 x0 x1 x3 x2
/-- The block of activations of the logits. -/
def theta (x0 x1 : Vec F S256x256 .f32) (x2 x3 : Vec F S2048x256 .f32) : FVec F S256x2048 .f32 := k0_pay29 x0 x1 x3 x2
/-- Each row's distinct greatest logit after the first stretch of steps. -/
def step1 (x0 x1 : Vec F S256x256 .f32) (x2 x3 : Vec F S2048x256 .f32) : FVec F S256x1 .f32 := k0_pay30 x0 x1 x3 x2
/-- The same after the second and third stretches. -/
def step2 (l : FVec F S256x2048 .f32) (t : FVec F S256x1 .f32) : FVec F S256x1 .f32 := k0_pay33 l (k0_pay31 l t) k0_pay32
/-- The distinct threshold, broadcast along the scratch buffer's lanes. -/
def distinctScr (l : FVec F S256x2048 .f32) (t : FVec F S256x1 .f32) : FVec F S256x128 .f32 :=
  k0_pay37 l (k0_pay34 l (step2 l t)) k0_pay35
/-- The branch's condition: some row has more than thirty entries at or above its distinct threshold. -/
def tied (l : FVec F S256x2048 .f32) (t : FVec F S256x1 .f32) : BitVec 1 :=
  Scalar.cmpi .ne (Scalar.extui (Scalar.cmpf .ogt (k0_pay38 l (k0_pay34 l (step2 l t)) k0_pay35) (Scalar.ofBits .f32 0x00000000#32)) : BitVec 32) 0#32
/-- The constant below every logit the walks start from. -/
abbrev low : F .f32 := Scalar.ofBits .f32 0xFF61B1E6#32
/-- The counted walk, stretch by stretch. -/
def walk1 (l : FVec F S256x2048 .f32) : FVec F S256x1 .f32 × FVec F S256x1 .f32 × FVec F S256x2048 .f32 := (k0_pay2 l low, k0_pay3 l low, k0_pay4 l low)
def walk2 (l : FVec F S256x2048 .f32) : FVec F S256x1 .f32 × FVec F S256x1 .f32 × IVec S256x2048 1 :=
  (k0_pay5 l low (walk1 l).1 (walk1 l).2.1 (walk1 l).2.2, k0_pay6 l low (walk1 l).1 (walk1 l).2.1 (walk1 l).2.2, k0_pay7 l low (walk1 l).1 (walk1 l).2.1 (walk1 l).2.2)
def walk3 (l : FVec F S256x2048 .f32) : FVec F S256x1 .f32 × FVec F S256 .f32 :=
  (k0_pay8 l low (walk2 l).1 (walk2 l).2.1 (walk2 l).2.2, k0_pay9 l low (walk2 l).1 (walk2 l).2.1 (walk2 l).2.2)
def walk4 (l : FVec F S256x2048 .f32) : FVec F S256x1 .f32 × IVec S256x2048 1 :=
  (k0_pay10 l low (walk3 l).1 (walk3 l).2, k0_pay11 l low (walk3 l).1 (walk3 l).2)
def walk5 (l : FVec F S256x2048 .f32) : FVec F S256x1 .f32 × IVec S256x2048 1 :=
  (k0_pay14 l low (walk4 l).1 (walk4 l).2 k0_pay12 k0_pay13, k0_pay15 l low (walk4 l).1 (walk4 l).2 k0_pay12 k0_pay13)
def walk6 (l : FVec F S256x2048 .f32) : FVec F S256x1 .f32 := k0_pay16 l low (walk5 l).1 (walk5 l).2 (Scalar.ofBits .f32 0x3F800000#32)
def walk8 (l : FVec F S256x2048 .f32) : FVec F S256x1 .f32 × FVec F S256x1 .f32 × FVec F S256x2048 .f32 :=
  (k0_pay20 l low (k0_pay17 l low (walk6 l)) (k0_pay18 l low (walk6 l)) (k0_pay19 l low (walk6 l)) (Scalar.ofBits .f32 0x41F00000#32),
   k0_pay21 l low (k0_pay17 l low (walk6 l)) (k0_pay18 l low (walk6 l)) (k0_pay19 l low (walk6 l)) (Scalar.ofBits .f32 0x41F00000#32),
   k0_pay22 l low (k0_pay17 l low (walk6 l)) (k0_pay18 l low (walk6 l)) (k0_pay19 l low (walk6 l)) (Scalar.ofBits .f32 0x41F00000#32))
def walk9 (l : FVec F S256x2048 .f32) : FVec F S256x1 .f32 × FVec F S256x1 .f32 × IVec S256x2048 1 :=
  (k0_pay23 l low (walk8 l).1 (walk8 l).2.1 (walk8 l).2.2, k0_pay24 l low (walk8 l).1 (walk8 l).2.1 (walk8 l).2.2, k0_pay25 l low (walk8 l).1 (walk8 l).2.1 (walk8 l).2.2)
/-- The counted threshold, broadcast along the scratch buffer's lanes. -/
def countedScr (l : FVec F S256x2048 .f32) : FVec F S256x128 .f32 :=
  k0_pay39 l (k0_pay26 l low (walk9 l).1 (walk9 l).2.1 (walk9 l).2.2) (k0_pay27 l low (walk9 l).1 (walk9 l).2.1 (walk9 l).2.2)
/-- What the scratch buffer holds after the first half. -/
def scr (l : FVec F S256x2048 .f32) (t : FVec F S256x1 .f32) : FVec F S256x128 .f32 :=
  if tied l t = 1#1 then countedScr l else distinctScr l t
/-- The second half of the body: everything after the threshold is in the scratch buffer, as printed. -/
def secondHalf (i : grid0.Coords) (arg1 : Memref sig .tc .vmem S256x256 .f32) (harg1 : arg1.IsWhole) (arg2 : Memref sig .tc .vmem S256x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x768 .f32) (harg5 : arg5.IsWhole) (arg6 : Memref sig .tc .vmem S2x64 .f32) (harg6 : arg6.IsWhole) (arg7 : Memref sig .tc .vmem S64x2 .f32) (harg7 : arg7.IsWhole) (arg8 : Memref sig .tc .vmem S256x2048 .f32) (harg8 : arg8.IsWhole) (arg9 : Memref sig .tc .vmem S256x768 .f32) (harg9 : arg9.IsWhole) (arg10 : Memref sig .tc .vmem S256x128 .f32) (harg10 : arg10.IsWhole) (v6 : FVec F S256x2048 .f32) (v11 : FVec F S256x2048 .f32) :
    Prog (TpuEff nD τ sig (Elt F) Λ₀ .tc) PUnit := do
  let ⟨v227, v228, v242, v246, v249⟩ : Σ' (v227 : FVec F S256x384 .f32) (v228 : FVec F S256x384 .f32) (v242 : FVec F S256x384 .f32) (v246 : FVec F S256x384 .f32), FVec F S256x384 .f32 ← k0_part16 i arg1 harg1 arg2 harg2 arg3 harg3 arg4 harg4 arg5 harg5 arg6 harg6 arg7 harg7 arg8 harg8 arg9 harg9 arg10 harg10 v6 v11
  let ⟨v278, v286, v290⟩ : Σ' (v278 : FVec F S256x384 .f32) (v286 : FVec F S256x384 .f32), FVec F S256x384 .f32 ← k0_part17 i arg1 harg1 arg2 harg2 arg3 harg3 arg4 harg4 arg5 harg5 arg6 harg6 arg7 harg7 arg8 harg8 arg9 harg9 arg10 harg10 v227 v228 v242 v246 v249
  let ⟨v322, v326, v329⟩ : Σ' (v322 : FVec F S256x384 .f32) (v326 : FVec F S256x384 .f32), FVec F S256x384 .f32 ← k0_part18 i arg1 harg1 arg2 harg2 arg3 harg3 arg4 harg4 arg5 harg5 arg6 harg6 arg7 harg7 arg8 harg8 arg9 harg9 arg10 harg10 v227 v228 v278 v286 v290
  let ⟨v358, v366, v370⟩ : Σ' (v358 : FVec F S256x384 .f32) (v366 : FVec F S256x384 .f32), FVec F S256x384 .f32 ← k0_part19 i arg1 harg1 arg2 harg2 arg3 harg3 arg4 harg4 arg5 harg5 arg6 harg6 arg7 harg7 arg8 harg8 arg9 harg9 arg10 harg10 v227 v228 v322 v326 v329
  let ⟨v402, v406, v409⟩ : Σ' (v402 : FVec F S256x384 .f32) (v406 : FVec F S256x384 .f32), FVec F S256x384 .f32 ← k0_part20 i arg1 harg1 arg2 harg2 arg3 harg3 arg4 harg4 arg5 harg5 arg6 harg6 arg7 harg7 arg8 harg8 arg9 harg9 arg10 harg10 v227 v228 v358 v366 v370
  let ⟨v438, v446, v450⟩ : Σ' (v438 : FVec F S256x384 .f32) (v446 : FVec F S256x384 .f32), FVec F S256x384 .f32 ← k0_part21 i arg1 harg1 arg2 harg2 arg3 harg3 arg4 harg4 arg5 harg5 arg6 harg6 arg7 harg7 arg8 harg8 arg9 harg9 arg10 harg10 v227 v228 v402 v406 v409
  let ⟨v482, v486, v489⟩ : Σ' (v482 : FVec F S256x384 .f32) (v486 : FVec F S256x384 .f32), FVec F S256x384 .f32 ← k0_part22 i arg1 harg1 arg2 harg2 arg3 harg3 arg4 harg4 arg5 harg5 arg6 harg6 arg7 harg7 arg8 harg8 arg9 harg9 arg10 harg10 v227 v228 v438 v446 v450
  let ⟨v518, v526, v530⟩ : Σ' (v518 : FVec F S256x384 .f32) (v526 : FVec F S256x384 .f32), FVec F S256x384 .f32 ← k0_part23 i arg1 harg1 arg2 harg2 arg3 harg3 arg4 harg4 arg5 harg5 arg6 harg6 arg7 harg7 arg8 harg8 arg9 harg9 arg10 harg10 v227 v228 v482 v486 v489
  let ⟨v562, v566, v569⟩ : Σ' (v562 : FVec F S256x384 .f32) (v566 : FVec F S256x384 .f32), FVec F S256x384 .f32 ← k0_part24 i arg1 harg1 arg2 harg2 arg3 harg3 arg4 harg4 arg5 harg5 arg6 harg6 arg7 harg7 arg8 harg8 arg9 harg9 arg10 harg10 v227 v228 v518 v526 v530
  let ⟨v598, v606, v610⟩ : Σ' (v598 : FVec F S256x384 .f32) (v606 : FVec F S256x384 .f32), FVec F S256x384 .f32 ← k0_part25 i arg1 harg1 arg2 harg2 arg3 harg3 arg4 harg4 arg5 harg5 arg6 harg6 arg7 harg7 arg8 harg8 arg9 harg9 arg10 harg10 v227 v228 v562 v566 v569
  let ⟨v642, v646, v649⟩ : Σ' (v642 : FVec F S256x384 .f32) (v646 : FVec F S256x384 .f32), FVec F S256x384 .f32 ← k0_part26 i arg1 harg1 arg2 harg2 arg3 harg3 arg4 harg4 arg5 harg5 arg6 harg6 arg7 harg7 arg8 harg8 arg9 harg9 arg10 harg10 v227 v228 v598 v606 v610
  let ⟨v678, v686, v690⟩ : Σ' (v678 : FVec F S256x384 .f32) (v686 : FVec F S256x384 .f32), FVec F S256x384 .f32 ← k0_part27 i arg1 harg1 arg2 harg2 arg3 harg3 arg4 harg4 arg5 harg5 arg6 harg6 arg7 harg7 arg8 harg8 arg9 harg9 arg10 harg10 v227 v228 v642 v646 v649
  let ⟨v722, v726, v729⟩ : Σ' (v722 : FVec F S256x384 .f32) (v726 : FVec F S256x384 .f32), FVec F S256x384 .f32 ← k0_part28 i arg1 harg1 arg2 harg2 arg3 harg3 arg4 harg4 arg5 harg5 arg6 harg6 arg7 harg7 arg8 harg8 arg9 harg9 arg10 harg10 v227 v228 v678 v686 v690
  let ⟨v758, v766, v770⟩ : Σ' (v758 : FVec F S256x384 .f32) (v766 : FVec F S256x384 .f32), FVec F S256x384 .f32 ← k0_part29 i arg1 harg1 arg2 harg2 arg3 harg3 arg4 harg4 arg5 harg5 arg6 harg6 arg7 harg7 arg8 harg8 arg9 harg9 arg10 harg10 v227 v228 v722 v726 v729
  let ⟨v802, v806, v809⟩ : Σ' (v802 : FVec F S256x384 .f32) (v806 : FVec F S256x384 .f32), FVec F S256x384 .f32 ← k0_part30 i arg1 harg1 arg2 harg2 arg3 harg3 arg4 harg4 arg5 harg5 arg6 harg6 arg7 harg7 arg8 harg8 arg9 harg9 arg10 harg10 v227 v228 v758 v766 v770
  let ⟨v838, v846, v850⟩ : Σ' (v838 : FVec F S256x384 .f32) (v846 : FVec F S256x384 .f32), FVec F S256x384 .f32 ← k0_part31 i arg1 harg1 arg2 harg2 arg3 harg3 arg4 harg4 arg5 harg5 arg6 harg6 arg7 harg7 arg8 harg8 arg9 harg9 arg10 harg10 v227 v228 v802 v806 v809
  let ⟨v882, v886, v889⟩ : Σ' (v882 : FVec F S256x384 .f32) (v886 : FVec F S256x384 .f32), FVec F S256x384 .f32 ← k0_part32 i arg1 harg1 arg2 harg2 arg3 harg3 arg4 harg4 arg5 harg5 arg6 harg6 arg7 harg7 arg8 harg8 arg9 harg9 arg10 harg10 v227 v228 v838 v846 v850
  let ⟨v918, v926, v930⟩ : Σ' (v918 : FVec F S256x384 .f32) (v926 : FVec F S256x384 .f32), FVec F S256x384 .f32 ← k0_part33 i arg1 harg1 arg2 harg2 arg3 harg3 arg4 harg4 arg5 harg5 arg6 harg6 arg7 harg7 arg8 harg8 arg9 harg9 arg10 harg10 v227 v228 v882 v886 v889
  let ⟨v962, v966, v969⟩ : Σ' (v962 : FVec F S256x384 .f32) (v966 : FVec F S256x384 .f32), FVec F S256x384 .f32 ← k0_part34 i arg1 harg1 arg2 harg2 arg3 harg3 arg4 harg4 arg5 harg5 arg6 harg6 arg7 harg7 arg8 harg8 arg9 harg9 arg10 harg10 v227 v228 v918 v926 v930
  let ⟨v998, v1006, v1010⟩ : Σ' (v998 : FVec F S256x384 .f32) (v1006 : FVec F S256x384 .f32), FVec F S256x384 .f32 ← k0_part35 i arg1 harg1 arg2 harg2 arg3 harg3 arg4 harg4 arg5 harg5 arg6 harg6 arg7 harg7 arg8 harg8 arg9 harg9 arg10 harg10 v227 v228 v962 v966 v969
  let ⟨v1042, v1046, v1049⟩ : Σ' (v1042 : FVec F S256x384 .f32) (v1046 : FVec F S256x384 .f32), FVec F S256x384 .f32 ← k0_part36 i arg1 harg1 arg2 harg2 arg3 harg3 arg4 harg4 arg5 harg5 arg6 harg6 arg7 harg7 arg8 harg8 arg9 harg9 arg10 harg10 v227 v228 v998 v1006 v1010
  let ⟨v1078, v1086, v1090⟩ : Σ' (v1078 : FVec F S256x384 .f32) (v1086 : FVec F S256x384 .f32), FVec F S256x384 .f32 ← k0_part37 i arg1 harg1 arg2 harg2 arg3 harg3 arg4 harg4 arg5 harg5 arg6 harg6 arg7 harg7 arg8 harg8 arg9 harg9 arg10 harg10 v227 v228 v1042 v1046 v1049
  let ⟨v1122, v1126, v1129⟩ : Σ' (v1122 : FVec F S256x384 .f32) (v1126 : FVec F S256x384 .f32), FVec F S256x384 .f32 ← k0_part38 i arg1 harg1 arg2 harg2 arg3 harg3 arg4 harg4 arg5 harg5 arg6 harg6 arg7 harg7 arg8 harg8 arg9 harg9 arg10 harg10 v227 v228 v1078 v1086 v1090
  let ⟨v1158, v1166, v1170⟩ : Σ' (v1158 : FVec F S256x384 .f32) (v1166 : FVec F S256x384 .f32), FVec F S256x384 .f32 ← k0_part39 i arg1 harg1 arg2 harg2 arg3 harg3 arg4 harg4 arg5 harg5 arg6 harg6 arg7 harg7 arg8 harg8 arg9 harg9 arg10 harg10 v227 v228 v1122 v1126 v1129
  let ⟨v1202, v1206, v1209⟩ : Σ' (v1202 : FVec F S256x384 .f32) (v1206 : FVec F S256x384 .f32), FVec F S256x384 .f32 ← k0_part40 i arg1 harg1 arg2 harg2 arg3 harg3 arg4 harg4 arg5 harg5 arg6 harg6 arg7 harg7 arg8 harg8 arg9 harg9 arg10 harg10 v227 v228 v1158 v1166 v1170
  let ⟨v1238, v1246, v1250⟩ : Σ' (v1238 : FVec F S256x384 .f32) (v1246 : FVec F S256x384 .f32), FVec F S256x384 .f32 ← k0_part41 i arg1 harg1 arg2 harg2 arg3 harg3 arg4 harg4 arg5 harg5 arg6 harg6 arg7 harg7 arg8 harg8 arg9 harg9 arg10 harg10 v227 v228 v1202 v1206 v1209
  let v1251 : Vec F S1x1 .f32 ← Prog.lift (.load arg7 (Rect.unit (s := S64x2) ![63, 1] S1x1.size inb_S64x2_S1x1_63_1).toLoadRect (View.loadsAt_vmem h_S1x1))
  let v1255 : Vec F S256x384 .f32 ← Prog.lift (.load arg9 (Rect.unit (s := S256x768) ![0, 0] S256x384.size inb_S256x768_S256x384_0_0).toLoadRect (View.loadsAt_vmem h_S256x384))
  Prog.lift (.store arg9 (Rect.unit (s := S256x768) ![0, 0] S256x384.size inb_S256x768_S256x384_0_0) v1250 Finset.univ (View.stores_vmem_bits_univ h_S256x384 rfl) (.inl rfl))
  let v1256 : Vec F S256x384 .f32 ← Prog.lift (.load arg9 (Rect.unit (s := S256x768) ![0, 384] S256x384.size inb_S256x768_S256x384_0_384).toLoadRect (View.loadsAt_vmem h_S256x384))
  Prog.lift (.store arg9 (Rect.unit (s := S256x768) ![0, 384] S256x384.size inb_S256x768_S256x384_0_384) (k0_pay1 v1238 v1246 v1251) Finset.univ (View.stores_vmem_bits_univ h_S256x384 rfl) (.inl rfl))
  pure ⟨⟩

/-- The first half of the body, as printed, going on with `k`. -/
def firstProg (i : grid0.Coords) (arg1 : Memref sig .tc .vmem S256x256 .f32) (harg1 : arg1.IsWhole) (arg2 : Memref sig .tc .vmem S256x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x768 .f32) (harg5 : arg5.IsWhole) (arg6 : Memref sig .tc .vmem S2x64 .f32) (harg6 : arg6.IsWhole) (arg7 : Memref sig .tc .vmem S64x2 .f32) (harg7 : arg7.IsWhole) (arg8 : Memref sig .tc .vmem S256x2048 .f32) (harg8 : arg8.IsWhole) (arg9 : Memref sig .tc .vmem S256x768 .f32) (harg9 : arg9.IsWhole) (arg10 : Memref sig .tc .vmem S256x128 .f32) (harg10 : arg10.IsWhole) (k : FVec F S256x2048 .f32 → FVec F S256x2048 .f32 → Prog (TpuEff nD τ sig (Elt F) Λ₀ .tc) PUnit) :
    Prog (TpuEff nD τ sig (Elt F) Λ₀ .tc) PUnit := do
  let ⟨v6, v11, v37⟩ : Σ' (v6 : FVec F S256x2048 .f32) (v11 : FVec F S256x2048 .f32), FVec F S256x1 .f32 ← k0_part11 i arg1 harg1 arg2 harg2 arg3 harg3 arg4 harg4 arg5 harg5 arg6 harg6 arg7 harg7 arg8 harg8 arg9 harg9 arg10 harg10
  let ⟨v81, v82⟩ : Σ' (v81 : IVec S256x2048 1), FVec F S256x2048 .f32 ← k0_part12 i arg1 harg1 arg2 harg2 arg3 harg3 arg4 harg4 arg5 harg5 arg6 harg6 arg7 harg7 arg8 harg8 arg9 harg9 arg10 harg10 v6 v37
  let v127 : FVec F S256x1 .f32 ← k0_part13 i arg1 harg1 arg2 harg2 arg3 harg3 arg4 harg4 arg5 harg5 arg6 harg6 arg7 harg7 arg8 harg8 arg9 harg9 arg10 harg10 v6 v81 v82
  let ⟨v171, v172⟩ : Σ' (v171 : IVec S256x2048 1), FVec F S256x2048 .f32 ← k0_part14 i arg1 harg1 arg2 harg2 arg3 harg3 arg4 harg4 arg5 harg5 arg6 harg6 arg7 harg7 arg8 harg8 arg9 harg9 arg10 harg10 v6 v127
  k0_part15 i arg1 harg1 arg2 harg2 arg3 harg3 arg4 harg4 arg5 harg5 arg6 harg6 arg7 harg7 arg8 harg8 arg9 harg9 arg10 harg10 v6 v171 v172
  k v6 v11

set_option maxRecDepth 65536 in
/-- The body is its first half going on with its second. -/
theorem body_split (i : grid0.Coords) (arg1 : Memref sig .tc .vmem S256x256 .f32) (harg1 : arg1.IsWhole) (arg2 : Memref sig .tc .vmem S256x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x768 .f32) (harg5 : arg5.IsWhole) (arg6 : Memref sig .tc .vmem S2x64 .f32) (harg6 : arg6.IsWhole) (arg7 : Memref sig .tc .vmem S64x2 .f32) (harg7 : arg7.IsWhole) (arg8 : Memref sig .tc .vmem S256x2048 .f32) (harg8 : arg8.IsWhole) (arg9 : Memref sig .tc .vmem S256x768 .f32) (harg9 : arg9.IsWhole) (arg10 : Memref sig .tc .vmem S256x128 .f32) (harg10 : arg10.IsWhole) : cc0__fused_body (F := F) i arg1 harg1 arg2 harg2 arg3 harg3 arg4 harg4 arg5 harg5 arg6 harg6 arg7 harg7 arg8 harg8 arg9 harg9 arg10 harg10 = firstProg i arg1 harg1 arg2 harg2 arg3 harg3 arg4 harg4 arg5 harg5 arg6 harg6 arg7 harg7 arg8 harg8 arg9 harg9 arg10 harg10 (secondHalf i arg1 harg1 arg2 harg2 arg3 harg3 arg4 harg4 arg5 harg5 arg6 harg6 arg7 harg7 arg8 harg8 arg9 harg9 arg10 harg10) := rfl

/-- A load of a whole buffer reads its contents. -/
theorem load_whole {sg : RefSig} {Val : EltTy → Type} {κ : Kind} {sp : Space} {n k : ℕ} {e : EltTy} {mr : Memref sg κ sp ⟨2, ![n, k]⟩ e}
    (h : mr.IsWhole) (X : (⟨2, ![n, k]⟩ : Shape).Idx → Val e) (inb : ∀ a, (![0, 0] : Fin 2 → ℕ) a + (![n, k] : Fin 2 → ℕ) a ≤ (⟨2, ![n, k]⟩ : Shape).size a) :
    View.readAt Val mr.view (Rect.unit (s := ⟨2, ![n, k]⟩) ![0, 0] ![n, k] inb).toLoadRect (h.unread X) = X := by
  funext x
  rw [h.readAt_unread]
  congr 1
  funext a
  apply Fin.ext
  fin_cases a <;> simp [LoadRect.idx, Rect.toLoadRect, Rect.unit]

set_option maxHeartbeats 1000000 in
/-- THE FIRST HALF: from the inputs' staging buffers, and the scratch buffer at anything, the body comes to its second
    half with the scratch buffer holding the threshold. -/
theorem firstHalf (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x768 .f32) (harg5 : arg5.IsWhole) (arg6 : Memref sig .tc .vmem S2x64 .f32) (harg6 : arg6.IsWhole) (arg7 : Memref sig .tc .vmem S64x2 .f32) (harg7 : arg7.IsWhole) (arg8 : Memref sig .tc .vmem S256x2048 .f32) (harg8 : arg8.IsWhole) (arg9 : Memref sig .tc .vmem S256x768 .f32) (harg9 : arg9.IsWhole) (arg10 : Memref sig .tc .vmem S256x128 .f32) (harg10 : arg10.IsWhole)
    (x0 : Vec F S256x256 .f32) (x1 : Vec F S256x256 .f32) (x2 : Vec F S2048x256 .f32) (x3 : Vec F S2048x256 .f32)
    (k : FVec F S256x2048 .f32 → FVec F S256x2048 .f32 → Prog (TpuEff nD τ sig (Elt F) Λ₀ .tc) PUnit) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare (scr (logits x0 x1 x2 x3) (step1 x0 x1 x2 x3)))
            -∗ wp frame (wpE (defs₀ (F := F)) Variants.none c none) E (k (logits x0 x1 x2 x3) (theta x0 x1 x2 x3)) K))
      ⊢ wp frame (wpE (defs₀ (F := F)) Variants.none c none) E (firstProg i arg1 harg1 arg2 harg2 arg3 harg3 arg4 harg4 arg5 harg5 arg6 harg6 arg7 harg7 arg8 harg8 arg9 harg9 arg10 harg10 k) K := by
  unfold firstProg
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg1.eq_unread hf0; obtain rfl := harg2.eq_unread hf1; obtain rfl := harg3.eq_unread hf2; obtain rfl := harg4.eq_unread hf3
  sl_exec
  have e0 : firstHalf.sl.r c arg1 harg1 arg2 harg2 arg3 harg3 arg4 harg4 x0 x1 x2 x3 = logits x0 x1 x2 x3 := by
    unfold firstHalf.sl.r logits; congr 1 <;> exact load_whole _ _ _
  have e1 : firstHalf.sl.r_1 c arg1 harg1 arg2 harg2 arg3 harg3 arg4 harg4 x0 x1 x2 x3 = theta x0 x1 x2 x3 := by
    unfold firstHalf.sl.r_1 theta; congr 1 <;> exact load_whole _ _ _
  have e2 : firstHalf.sl.r_2 c arg1 harg1 arg2 harg2 arg3 harg3 arg4 harg4 x0 x1 x2 x3 = step1 x0 x1 x2 x3 := by
    unfold firstHalf.sl.r_2 step1; congr 1 <;> exact load_whole _ _ _
  rw [e0, e1]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact HS0
  ipureintro
  have ec : firstHalf.sl.v211 c arg1 harg1 arg2 harg2 arg3 harg3 arg4 harg4 x0 x1 x2 x3 = tied (logits x0 x1 x2 x3) (step1 x0 x1 x2 x3) := by
    delta firstHalf.sl.v211 firstHalf.sl.v210 firstHalf.sl.v209 firstHalf.sl.cst_78 firstHalf.sl.r_5 firstHalf.sl.r_4 firstHalf.sl.r_3
    rw [e0, e2]; rfl
  rw [ec]
  unfold scr
  split
  · refine (View.read_writes_full _ _ _ _ _).trans ?_
    delta firstHalf.sl.r_29 firstHalf.sl.r_28 firstHalf.sl.r_27 firstHalf.sl.r_26 firstHalf.sl.r_25 firstHalf.sl.r_24 firstHalf.sl.r_23 firstHalf.sl.r_22 firstHalf.sl.r_21 firstHalf.sl.r_20 firstHalf.sl.r_19 firstHalf.sl.r_18 firstHalf.sl.r_17 firstHalf.sl.r_16 firstHalf.sl.r_15 firstHalf.sl.r_14 firstHalf.sl.r_13 firstHalf.sl.r_12 firstHalf.sl.r_11 firstHalf.sl.r_10 firstHalf.sl.r_9 firstHalf.sl.r_8 firstHalf.sl.r_7 firstHalf.sl.r_6 firstHalf.sl.cst_79 firstHalf.sl.cst_615 firstHalf.sl.cst_644
    rw [e0]; rfl
  · refine (View.read_writes_full _ _ _ _ _).trans ?_
    delta firstHalf.sl.r_5 firstHalf.sl.r_4 firstHalf.sl.r_3
    rw [e0, e2]; rfl

/-! ## What the second half computes -/

/-- The scratch buffer's first lane. -/
def lane0 (xs : Vec F S256x128 .f32) : Vec F S256x1 .f32 := fun x => xs (fun | ⟨0, _⟩ => x 0 | ⟨1, _⟩ => (⟨0, Nat.zero_lt_succ _⟩ : Fin 128))
/-- One entry of the first weight matrix, as the one-cell block the body loads. -/
def cell1 (w : Vec F S2x64 .f32) (a h : ℕ) : Vec F S1x1 .f32 :=
  fun _ => w (fun | ⟨0, _⟩ => ⟨a % 2, Nat.mod_lt _ (by decide)⟩ | ⟨1, _⟩ => ⟨h % 64, Nat.mod_lt _ (by decide)⟩)
/-- One entry of the second. -/
def cell2 (w : Vec F S64x2 .f32) (h o : ℕ) : Vec F S1x1 .f32 :=
  fun _ => w (fun | ⟨0, _⟩ => ⟨h % 64, Nat.mod_lt _ (by decide)⟩ | ⟨1, _⟩ => ⟨o % 2, Nat.mod_lt _ (by decide)⟩)
/-- The block of the adjacency. -/
def adjBlk (l th : FVec F S256x2048 .f32) (xs : Vec F S256x128 .f32) : FVec F S256x2048 .f32 := k0_pay40 l th (lane0 xs)
/-- The two halves of the propagated block: input feature 0 and input feature 1. -/
def prop0 (l th : FVec F S256x2048 .f32) (xs : Vec F S256x128 .f32) (x4 : Vec F S2048x768 .f32) : FVec F S256x384 .f32 := k0_pay42 l th (lane0 xs) x4
def prop1 (l th : FVec F S256x2048 .f32) (xs : Vec F S256x128 .f32) (x4 : Vec F S2048x768 .f32) : FVec F S256x384 .f32 := k0_pay43 l th (lane0 xs) x4
/-- The hidden layer's unit `h`. -/
def hidden (p q : FVec F S256x384 .f32) (x5 : Vec F S2x64 .f32) (h : ℕ) : FVec F S256x384 .f32 :=
  tanh (addf (mulf p (broadcastTo S256x384 (cell1 x5 0 h) broadcasts_S1x1_S256x384)) (mulf q (broadcastTo S256x384 (cell1 x5 1 h) broadcasts_S1x1_S256x384)))
/-- The output feature `o` after the first `n` hidden units. -/
def acc (p q : FVec F S256x384 .f32) (x5 : Vec F S2x64 .f32) (x6 : Vec F S64x2 .f32) (o : ℕ) : ℕ → FVec F S256x384 .f32
  | 0 => broadcast S256x384 (Scalar.ofBits .f32 0x00000000#32)
  | n + 1 => addf (acc p q x5 x6 o n) (mulf (hidden p q x5 n) (broadcastTo S256x384 (cell2 x6 n o) broadcasts_S1x1_S256x384))
/-- Two blocks side by side. -/
def halves (a b : FVec F S256x384 .f32) : FVec F S256x768 .f32 := fun y =>
  if h : (y 1).val < 384 then a (fun | ⟨0, _⟩ => y 0 | ⟨1, _⟩ => ⟨(y 1).val, h⟩)
  else b (fun | ⟨0, _⟩ => y 0 | ⟨1, _⟩ => ⟨(y 1).val - 384, by have : (y 1).val < 768 := (y 1).isLt; show _ < 384; omega⟩)
/-- The output block: output feature 0 in the first 384 columns, output feature 1 in the rest. -/
def outBlk (p q : FVec F S256x384 .f32) (x5 : Vec F S2x64 .f32) (x6 : Vec F S64x2 .f32) : FVec F S256x768 .f32 :=
  halves (acc p q x5 x6 0 64) (acc p q x5 x6 1 64)

/-- A block stored as two halves reads them side by side. -/
theorem read_halves {sg : RefSig} {κ : Kind} {sp : Space} (v : View sg κ sp S256x768 .f32) (f : v.ty.Contents (Elt F))
    (a b : FVec F S256x384 .f32) :
    v.read (Elt F) (v.writes (Elt F) f [⟨Rect.unit ![0, 384] S256x384.size inb_S256x768_S256x384_0_384, b⟩, ⟨Rect.unit ![0, 0] S256x384.size inb_S256x768_S256x384_0_0, a⟩])
      = halves a b := by
  funext y
  have hy : (y 1).val < 768 := (y 1).isLt
  unfold halves
  by_cases h : (y 1).val < 384
  · rw [dif_pos h]
    refine (View.read_writes_cons_unit_of_not_mem v f _ _ _ y rfl 1 (Or.inl h)).trans ?_
    refine View.read_writes_cons_unit_of_mem v f _ _ _ y _ rfl fun k => ?_
    match k with
    | ⟨0, _⟩ => exact (Nat.zero_add _).symm
    | ⟨1, _⟩ => exact (Nat.zero_add _).symm
  · rw [dif_neg h]
    refine View.read_writes_cons_unit_of_mem v f _ _ _ y _ rfl fun k => ?_
    match k with
    | ⟨0, _⟩ => exact (Nat.zero_add _).symm
    | ⟨1, _⟩ => show (y 1).val = 384 + ((y 1).val - 384); omega

/-- A load of the first lane. -/
theorem load_lane0 {mr : Memref sig .tc .vmem S256x128 .f32} (h : mr.IsWhole) (X : Vec F S256x128 .f32) :
    View.readAt (Elt F) mr.view (Rect.unit (s := S256x128) ![0, 0] ![256, 1] inb_S256x128_S256x1_0_0).toLoadRect (h.unread X) = lane0 X := by
  funext x
  rw [h.readAt_unread]
  have h1 : (x 1).val < 1 := (x 1).isLt
  refine congrArg X (funext fun k => Fin.ext ?_)
  match k with
  | ⟨0, _⟩ => show 0 + 1 * (x 0).val = (x 0).val; omega
  | ⟨1, _⟩ => show 0 + 1 * (x 1).val = 0; omega

/-- A load of one entry of the first weight matrix. -/
theorem load_cell1 {mr : Memref sig .tc .vmem S2x64 .f32} (h : mr.IsWhole) (X : Vec F S2x64 .f32) (a b : ℕ)
    (inb : ∀ k, (![a, b] : Fin 2 → ℕ) k + (![1, 1] : Fin 2 → ℕ) k ≤ S2x64.size k) :
    View.readAt (Elt F) mr.view (Rect.unit (s := S2x64) ![a, b] ![1, 1] inb).toLoadRect (h.unread X) = cell1 X a b := by
  funext x
  rw [h.readAt_unread]
  have ha : a + 1 ≤ 2 := inb 0
  have hb : b + 1 ≤ 64 := inb 1
  have h0 : (x 0).val < 1 := (x 0).isLt
  have h1 : (x 1).val < 1 := (x 1).isLt
  refine congrArg X (funext fun k => Fin.ext ?_)
  match k with
  | ⟨0, _⟩ => show a + 1 * (x 0).val = a % 2; omega
  | ⟨1, _⟩ => show b + 1 * (x 1).val = b % 64; omega

/-- A load of one entry of the second weight matrix. -/
theorem load_cell2 {mr : Memref sig .tc .vmem S64x2 .f32} (h : mr.IsWhole) (X : Vec F S64x2 .f32) (a b : ℕ)
    (inb : ∀ k, (![a, b] : Fin 2 → ℕ) k + (![1, 1] : Fin 2 → ℕ) k ≤ S64x2.size k) :
    View.readAt (Elt F) mr.view (Rect.unit (s := S64x2) ![a, b] ![1, 1] inb).toLoadRect (h.unread X) = cell2 X a b := by
  funext x
  rw [h.readAt_unread]
  have ha : a + 1 ≤ 64 := inb 0
  have hb : b + 1 ≤ 2 := inb 1
  have h0 : (x 0).val < 1 := (x 0).isLt
  have h1 : (x 1).val < 1 := (x 1).isLt
  refine congrArg X (funext fun k => Fin.ext ?_)
  match k with
  | ⟨0, _⟩ => show a + 1 * (x 0).val = a % 64; omega
  | ⟨1, _⟩ => show b + 1 * (x 1).val = b % 2; omega

set_option maxHeartbeats 2000000 in
/-- THE SECOND HALF, from the scratch buffer at `xs`: the two output blocks. -/
theorem secondHalf_run (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x768 .f32) (harg5 : arg5.IsWhole) (arg6 : Memref sig .tc .vmem S2x64 .f32) (harg6 : arg6.IsWhole) (arg7 : Memref sig .tc .vmem S64x2 .f32) (harg7 : arg7.IsWhole) (arg8 : Memref sig .tc .vmem S256x2048 .f32) (harg8 : arg8.IsWhole) (arg9 : Memref sig .tc .vmem S256x768 .f32) (harg9 : arg9.IsWhole) (arg10 : Memref sig .tc .vmem S256x128 .f32) (harg10 : arg10.IsWhole)
    (l th : FVec F S256x2048 .f32) (xs : Vec F S256x128 .f32) (x4 : Vec F S2048x768 .f32) (x5 : Vec F S2x64 .f32) (x6 : Vec F S64x2 .f32)
    (E : Set ℕ) (K : PUnit → sProp 𝕄) :
    iprop(owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs
        ∗ (iprop(owns (c : Thread nD τ) arg5 fullShare x4 ∗ owns (c : Thread nD τ) arg6 fullShare x5 ∗ owns (c : Thread nD τ) arg7 fullShare x6 ∗ owns (c : Thread nD τ) arg8 fullShare (adjBlk l th xs)
            ∗ owns (c : Thread nD τ) arg9 fullShare (outBlk (prop0 l th xs x4) (prop1 l th xs x4) x5 x6) ∗ owns (c : Thread nD τ) arg10 fullShare xs) -∗ K ⟨⟩))
      ⊢ wp frame (wpE (defs₀ (F := F)) Variants.none c none) E (secondHalf i arg1 harg1 arg2 harg2 arg3 harg3 arg4 harg4 arg5 harg5 arg6 harg6 arg7 harg7 arg8 harg8 arg9 harg9 arg10 harg10 l th) K := by
  unfold secondHalf
  simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%f4, %hf4, H4⟩, ⟨%f5, %hf5, H5⟩, ⟨%f6, %hf6, H6⟩, ⟨%d7, %f7, -, H7⟩, ⟨%d8, %f8, -, H8⟩, ⟨%fs0, %hfs, HS0⟩, Hk⟩
  obtain rfl := harg5.eq_unread hf4; obtain rfl := harg6.eq_unread hf5; obtain rfl := harg7.eq_unread hf6; obtain rfl := harg10.eq_unread hfs
  sl_exec
  sl_step
  iapply Hk
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (View.read_writes_full _ _ _ _ _).trans ?_
    exact congrArg (k0_pay40 l th) (load_lane0 _ _)
  isplitl [H8]
  · iexists _; isplitr
    swap; · iexact H8
    ipureintro
    refine (read_halves _ _ _ _).trans ?_
    have e0 : secondHalf_run.sl.r_79 c arg5 harg5 arg6 harg6 arg7 harg7 arg10 harg10 l th xs x4 x5 x6 = acc (prop0 l th xs x4) (prop1 l th xs x4) x5 x6 0 64 := by
      delta secondHalf_run.sl.r_79 secondHalf_run.sl.r_78 secondHalf_run.sl.r_77 secondHalf_run.sl.r_76 secondHalf_run.sl.r_75 secondHalf_run.sl.r_74 secondHalf_run.sl.r_73 secondHalf_run.sl.r_72 secondHalf_run.sl.r_71 secondHalf_run.sl.r_70 secondHalf_run.sl.r_69 secondHalf_run.sl.r_68 secondHalf_run.sl.r_67 secondHalf_run.sl.r_66 secondHalf_run.sl.r_65 secondHalf_run.sl.r_64 secondHalf_run.sl.r_63 secondHalf_run.sl.r_62 secondHalf_run.sl.r_61 secondHalf_run.sl.r_60 secondHalf_run.sl.r_59 secondHalf_run.sl.r_58 secondHalf_run.sl.r_57 secondHalf_run.sl.r_56 secondHalf_run.sl.r_55 secondHalf_run.sl.r_54 secondHalf_run.sl.r_53 secondHalf_run.sl.r_52 secondHalf_run.sl.r_51 secondHalf_run.sl.r_50 secondHalf_run.sl.r_49 secondHalf_run.sl.r_48 secondHalf_run.sl.r_47 secondHalf_run.sl.r_46 secondHalf_run.sl.r_45 secondHalf_run.sl.r_44 secondHalf_run.sl.r_43 secondHalf_run.sl.r_42 secondHalf_run.sl.r_41 secondHalf_run.sl.r_40 secondHalf_run.sl.r_39 secondHalf_run.sl.r_38 secondHalf_run.sl.r_37 secondHalf_run.sl.r_36 secondHalf_run.sl.r_35 secondHalf_run.sl.r_34 secondHalf_run.sl.r_33 secondHalf_run.sl.r_32 secondHalf_run.sl.r_31 secondHalf_run.sl.r_30 secondHalf_run.sl.r_29 secondHalf_run.sl.r_28 secondHalf_run.sl.r_27 secondHalf_run.sl.r_26 secondHalf_run.sl.r_25 secondHalf_run.sl.r_24 secondHalf_run.sl.r_23 secondHalf_run.sl.r_22 secondHalf_run.sl.r_21 secondHalf_run.sl.r_20 secondHalf_run.sl.r_19 secondHalf_run.sl.r_18 secondHalf_run.sl.r_17 secondHalf_run.sl.r_16 secondHalf_run.sl.r_15 secondHalf_run.sl.r_14 secondHalf_run.sl.r_13 secondHalf_run.sl.r_12 secondHalf_run.sl.r_11 secondHalf_run.sl.r_10 secondHalf_run.sl.r_9 secondHalf_run.sl.r_8 secondHalf_run.sl.r_7 secondHalf_run.sl.r_6 secondHalf_run.sl.r_5 secondHalf_run.sl.r_4 secondHalf_run.sl.r_3 secondHalf_run.sl.r_2 secondHalf_run.sl.r_1 secondHalf_run.sl.r
      simp only [load_lane0, load_whole, load_cell1, load_cell2, acc, hidden, prop0, prop1, k0_pay1, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172]
    have e1 : k0_pay1 (secondHalf_run.sl.r_77 c arg5 harg5 arg6 harg6 arg7 harg7 arg10 harg10 l th xs x4 x5 x6)
          (secondHalf_run.sl.r_78 c arg5 harg5 arg6 harg6 arg10 harg10 l th xs x4 x5)
          (View.readAt (Elt F) arg7.view (Rect.unit (s := S64x2) ![63, 1] S1x1.size inb_S64x2_S1x1_63_1).toLoadRect (harg7.unread x6))
        = acc (prop0 l th xs x4) (prop1 l th xs x4) x5 x6 1 64 := by
      delta secondHalf_run.sl.r_79 secondHalf_run.sl.r_78 secondHalf_run.sl.r_77 secondHalf_run.sl.r_76 secondHalf_run.sl.r_75 secondHalf_run.sl.r_74 secondHalf_run.sl.r_73 secondHalf_run.sl.r_72 secondHalf_run.sl.r_71 secondHalf_run.sl.r_70 secondHalf_run.sl.r_69 secondHalf_run.sl.r_68 secondHalf_run.sl.r_67 secondHalf_run.sl.r_66 secondHalf_run.sl.r_65 secondHalf_run.sl.r_64 secondHalf_run.sl.r_63 secondHalf_run.sl.r_62 secondHalf_run.sl.r_61 secondHalf_run.sl.r_60 secondHalf_run.sl.r_59 secondHalf_run.sl.r_58 secondHalf_run.sl.r_57 secondHalf_run.sl.r_56 secondHalf_run.sl.r_55 secondHalf_run.sl.r_54 secondHalf_run.sl.r_53 secondHalf_run.sl.r_52 secondHalf_run.sl.r_51 secondHalf_run.sl.r_50 secondHalf_run.sl.r_49 secondHalf_run.sl.r_48 secondHalf_run.sl.r_47 secondHalf_run.sl.r_46 secondHalf_run.sl.r_45 secondHalf_run.sl.r_44 secondHalf_run.sl.r_43 secondHalf_run.sl.r_42 secondHalf_run.sl.r_41 secondHalf_run.sl.r_40 secondHalf_run.sl.r_39 secondHalf_run.sl.r_38 secondHalf_run.sl.r_37 secondHalf_run.sl.r_36 secondHalf_run.sl.r_35 secondHalf_run.sl.r_34 secondHalf_run.sl.r_33 secondHalf_run.sl.r_32 secondHalf_run.sl.r_31 secondHalf_run.sl.r_30 secondHalf_run.sl.r_29 secondHalf_run.sl.r_28 secondHalf_run.sl.r_27 secondHalf_run.sl.r_26 secondHalf_run.sl.r_25 secondHalf_run.sl.r_24 secondHalf_run.sl.r_23 secondHalf_run.sl.r_22 secondHalf_run.sl.r_21 secondHalf_run.sl.r_20 secondHalf_run.sl.r_19 secondHalf_run.sl.r_18 secondHalf_run.sl.r_17 secondHalf_run.sl.r_16 secondHalf_run.sl.r_15 secondHalf_run.sl.r_14 secondHalf_run.sl.r_13 secondHalf_run.sl.r_12 secondHalf_run.sl.r_11 secondHalf_run.sl.r_10 secondHalf_run.sl.r_9 secondHalf_run.sl.r_8 secondHalf_run.sl.r_7 secondHalf_run.sl.r_6 secondHalf_run.sl.r_5 secondHalf_run.sl.r_4 secondHalf_run.sl.r_3 secondHalf_run.sl.r_2 secondHalf_run.sl.r_1 secondHalf_run.sl.r
      simp only [load_lane0, load_whole, load_cell1, load_cell2, acc, hidden, prop0, prop1, k0_pay1, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172]
    rw [e0]
    refine Eq.trans (congrArg (halves _) e1) ?_
    rfl
  iexists _; isplitr; · ipureintro; exact harg10.read_unread _
  iexact HS0

/-! ## What the outputs hold after each point -/

/-- The two output blocks of a point as functions of its input blocks: the adjacency's, -/
def adjOf (x0 x1 : Vec F S256x256 .f32) (x2 x3 : Vec F S2048x256 .f32) : FVec F S256x2048 .f32 :=
  adjBlk (logits x0 x1 x2 x3) (theta x0 x1 x2 x3) (scr (logits x0 x1 x2 x3) (step1 x0 x1 x2 x3))
/-- and the outputs'. -/
def outOf (x0 x1 : Vec F S256x256 .f32) (x2 x3 : Vec F S2048x256 .f32) (x4 : Vec F S2048x768 .f32) (x5 : Vec F S2x64 .f32) (x6 : Vec F S64x2 .f32) : FVec F S256x768 .f32 :=
  outBlk (prop0 (logits x0 x1 x2 x3) (theta x0 x1 x2 x3) (scr (logits x0 x1 x2 x3) (step1 x0 x1 x2 x3)) x4)
    (prop1 (logits x0 x1 x2 x3) (theta x0 x1 x2 x3) (scr (logits x0 x1 x2 x3) (step1 x0 x1 x2 x3)) x4) x5 x6

/-- THE BODY: on whole staging buffers, the inputs' at their contents and everything else at anything, it leaves the
    inputs' as they were and the two outputs' at `adjOf` and `outOf`. -/
theorem body_run (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x768 .f32) (harg5 : arg5.IsWhole) (arg6 : Memref sig .tc .vmem S2x64 .f32) (harg6 : arg6.IsWhole) (arg7 : Memref sig .tc .vmem S64x2 .f32) (harg7 : arg7.IsWhole) (arg8 : Memref sig .tc .vmem S256x2048 .f32) (harg8 : arg8.IsWhole) (arg9 : Memref sig .tc .vmem S256x768 .f32) (harg9 : arg9.IsWhole) (arg10 : Memref sig .tc .vmem S256x128 .f32) (harg10 : arg10.IsWhole)
    (x0 : Vec F S256x256 .f32) (x1 : Vec F S256x256 .f32) (x2 : Vec F S2048x256 .f32) (x3 : Vec F S2048x256 .f32) (x4 : Vec F S2048x768 .f32) (x5 : Vec F S2x64 .f32) (x6 : Vec F S64x2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (adjOf x0 x1 x2 x3) ∗ owns (c : Thread nD τ) arg9 fullShare (outOf x0 x1 x2 x3 x4 x5 x6) ∗ (∃ d, owns (c : Thread nD τ) arg10 fullShare d)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K := by
  rw [body_split]
  iintro ⟨H0, H1, H2, H3, H4, H5, H6, H7, H8, HS, Hk⟩
  iapply (firstHalf c i arg1 harg1 arg2 harg2 arg3 harg3 arg4 harg4 arg5 harg5 arg6 harg6 arg7 harg7 arg8 harg8 arg9 harg9 arg10 harg10 x0 x1 x2 x3 (secondHalf i arg1 harg1 arg2 harg2 arg3 harg3 arg4 harg4 arg5 harg5 arg6 harg6 arg7 harg7 arg8 harg8 arg9 harg9 arg10 harg10) E K)
  isplitl [H0]; · iexact H0
  isplitl [H1]; · iexact H1
  isplitl [H2]; · iexact H2
  isplitl [H3]; · iexact H3
  isplitl [HS]; · iexact HS
  iintro ⟨H0, H1, H2, H3, HS⟩
  iapply (secondHalf_run c i arg1 harg1 arg2 harg2 arg3 harg3 arg4 harg4 arg5 harg5 arg6 harg6 arg7 harg7 arg8 harg8 arg9 harg9 arg10 harg10 (logits x0 x1 x2 x3) (theta x0 x1 x2 x3) (scr (logits x0 x1 x2 x3) (step1 x0 x1 x2 x3)) x4 x5 x6 E K)
  isplitl [H4]; · iexact H4
  isplitl [H5]; · iexact H5
  isplitl [H6]; · iexact H6
  isplitl [H7]; · iexact H7
  isplitl [H8]; · iexact H8
  isplitl [HS]; · iexact HS
  iintro ⟨H4, H5, H6, H7, H8, HS⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact HS

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x2 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x768 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- The proof data of the one pipeline on core `c`: the arrays as the region finds them (`V`); after the body at
    point `t` each input's buffer at its block and the outputs' at `adjOf` and `outOf` of the input blocks; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => adjOf (iblk m c 0 t) (iblk m c 1 t) (iblk m c 2 t) (iblk m c 3 t)
    | ⟨8, _⟩ => outOf (iblk m c 0 t) (iblk m c 1 t) (iblk m c 2 t) (iblk m c 3 t) (iblk m c 4 t) (iblk m c 5 t) (iblk m c 6 t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = adjOf (iblk m c 0 t) (iblk m c 1 t) (iblk m c 2 t) (iblk m c 3 t) := by dsimp only [dats]
theorem after0_8 (c : Dev nD) (t : Fin cfg0.N) : (dats m 0 c).after 8 t = outOf (iblk m c 0 t) (iblk m c 1 t) (iblk m c 2 t) (iblk m c 3 t) (iblk m c 4 t) (iblk m c 5 t) (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

/-! ## The run and the frame -/

-- `θ_run_frame_around_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Body

end
-- ==== Proof.Rank.lean ====
/- The order theory of the two threshold walks over one row of extended reals, and the constants and the activation they
   are used with: an entry is at or above the threshold a walk ends at exactly when fewer than `K` entries of the row are
   greater. -/
module

public import Idealize.ShloMosaic.Lib.Pointwise

@[expose] public section

noncomputable section

namespace Cert.Rank

open Idealize.ShloMosaic

variable {ι : Type} [Fintype ι] [DecidableEq ι]

/-- How many entries of the row are greater than `x`. -/
def above (l : ι → EReal) (x : EReal) : ℕ := (Finset.univ.filter fun j => x < l j).card
/-- How many entries of the row are at or above `x`. -/
def atLeast (l : ι → EReal) (x : EReal) : ℕ := (Finset.univ.filter fun j => x ≤ l j).card
/-- The row's greatest entry (from `b`). -/
def top (b : EReal) (l : ι → EReal) : EReal := Finset.univ.fold max b l
/-- The greatest entry below `t`, or `lo` where there is none above it. -/
def next (b lo : EReal) (l : ι → EReal) (t : EReal) : EReal := Finset.univ.fold max b fun j => if l j < t then l j else lo
/-- The walk down the distinct entries. -/
def distinct (b lo : EReal) (l : ι → EReal) : ℕ → EReal
  | 0 => top b l
  | n + 1 => next b lo l (distinct b lo l n)
/-- The walk that stops as soon as `K` entries are at or above it. -/
def counted (K : ℕ) (b lo : EReal) (l : ι → EReal) : ℕ → EReal
  | 0 => top b l
  | n + 1 => if atLeast l (counted K b lo l n) < K then next b lo l (counted K b lo l n) else counted K b lo l n

variable {b lo : EReal} {l : ι → EReal} {K : ℕ}

theorem above_antitone {x y : EReal} (h : x ≤ y) : above l y ≤ above l x :=
  Finset.card_le_card fun j => by simpa using fun hj => lt_of_le_of_lt h hj

theorem above_lt {x : EReal} (j : ι) (h : x < l j) : above l (l j) < above l x :=
  Finset.card_lt_card ⟨fun i => by simpa using fun hi => h.trans hi, fun hs => by simpa using hs (by simpa using h : j ∈ Finset.univ.filter fun i => x < l i)⟩

theorem atLeast_le_above {x y : EReal} (h : x < y) : atLeast l y ≤ above l x :=
  Finset.card_le_card fun j => by simpa using fun hj => lt_of_lt_of_le h hj

/-- A value `x` at least `lo` is below the next step exactly through an entry below `t` that is above `x`. -/
theorem lt_next {t x : EReal} (hb : b ≤ lo) (hx : lo ≤ x) (h : x < next b lo l t) : ∃ j, l j < t ∧ x < l j := by
  rcases (Finset.lt_fold_max _).1 h with h | ⟨j, _, h⟩
  · exact absurd (hb.trans hx) (not_le.2 h)
  · by_cases hj : l j < t
    · exact ⟨j, hj, by simpa [hj] using h⟩
    · exact absurd hx (not_le.2 (by simpa [hj] using h))

theorem lt_top' {x : EReal} (hb : b ≤ lo) (hx : lo ≤ x) (h : x < top b l) : ∃ j, x < l j := by
  rcases (Finset.lt_fold_max _).1 h with h | ⟨j, _, h⟩
  · exact absurd (hb.trans hx) (not_le.2 h)
  · exact ⟨j, h⟩

/-- A value below the distinct walk's `n`-th step has more than `n` entries above it. -/
theorem lt_distinct (hb : b ≤ lo) (n : ℕ) : ∀ x, lo ≤ x → x < distinct b lo l n → n + 1 ≤ above l x := by
  induction n with
  | zero =>
    intro x hx h
    obtain ⟨j, hj⟩ := lt_top' hb hx h
    exact Finset.card_pos.2 ⟨j, by simpa using hj⟩
  | succ n ih =>
    intro x hx h
    obtain ⟨j, hj, hxj⟩ := lt_next hb hx h
    exact lt_of_le_of_lt (ih (l j) (hx.trans hxj.le) hj) (above_lt j hxj)

/-- The same of the counted walk, up to its bound. -/
theorem lt_counted (hb : b ≤ lo) (n : ℕ) : n < K → ∀ x, lo ≤ x → x < counted K b lo l n → n + 1 ≤ above l x := by
  induction n with
  | zero =>
    intro _ x hx h
    obtain ⟨j, hj⟩ := lt_top' hb hx h
    exact Finset.card_pos.2 ⟨j, by simpa using hj⟩
  | succ n ih =>
    intro hn x hx h
    rw [counted] at h
    split at h
    · obtain ⟨j, hj, hxj⟩ := lt_next hb hx h
      exact lt_of_le_of_lt (ih (by omega) (l j) (hx.trans hxj.le) hj) (above_lt j hxj)
    · rename_i hc
      exact le_trans (by omega) (atLeast_le_above h)

/-- Fewer than `K` entries are ever above the counted walk. -/
theorem above_counted (hK : 0 < K) (n : ℕ) : above l (counted K b lo l n) < K := by
  induction n with
  | zero =>
    have : above l (counted K b lo l 0) = 0 :=
      Finset.card_eq_zero.2 (Finset.filter_eq_empty_iff.2 fun j _ => not_lt.2 ((Finset.le_fold_max _).2 (.inr ⟨j, Finset.mem_univ j, le_rfl⟩)))
    omega
  | succ n ih =>
    rw [counted]
    split
    · rename_i hc
      refine lt_of_le_of_lt (Finset.card_le_card fun j => ?_) hc
      simp only [Finset.mem_filter, Finset.mem_univ, true_and]
      intro hj
      by_contra hlt
      refine absurd hj (not_lt.2 ((Finset.le_fold_max _).2 (.inr ⟨j, Finset.mem_univ j, ?_⟩)))
      rw [if_pos (not_le.1 hlt)]
    · exact ih

/-- THE COUNTED THRESHOLD: an entry at least `lo` is at or above it exactly when fewer than `K` entries are greater. -/
theorem counted_le_iff (hb : b ≤ lo) {n : ℕ} (hn : n + 1 = K) {x : EReal} (hx : lo ≤ x) :
    counted K b lo l n ≤ x ↔ above l x < K := by
  refine ⟨fun h => lt_of_le_of_lt (above_antitone h) (above_counted (by omega) n), fun h => ?_⟩
  by_contra hlt
  exact absurd (lt_counted hb n (by omega) x hx (not_le.1 hlt)) (by omega)

/-- THE DISTINCT THRESHOLD: where no more than `K` entries are at or above it, it says the same of an entry of the row. -/
theorem distinct_le_iff (hb : b ≤ lo) {n : ℕ} (hn : n + 1 = K) (hc : atLeast l (distinct b lo l n) ≤ K) (j : ι) (hx : lo ≤ l j) :
    distinct b lo l n ≤ l j ↔ above l (l j) < K := by
  refine ⟨fun h => lt_of_lt_of_le (Finset.card_lt_card ⟨fun i => ?_, fun hs => ?_⟩) hc, fun h => ?_⟩
  · simpa using fun hi => h.trans hi.le
  · simpa using hs (by simpa using h : j ∈ Finset.univ.filter fun i => distinct b lo l n ≤ l i)
  · by_contra hlt
    exact absurd (lt_distinct hb n (l j) hx (not_le.1 hlt)) (by omega)

/-- A count of ones is the number of entries counted. -/
theorem sum_ones (p : ι → Prop) [DecidablePred p] : (∑ j, if p j then (1 : EReal) else 0) = ((Finset.univ.filter p).card : EReal) :=
  (Finset.natCast_card_filter p Finset.univ).symm

theorem natCast_lt {a c : ℕ} : (a : EReal) < (c : EReal) ↔ a < c := by
  rw [← EReal.coe_natCast, ← EReal.coe_natCast, EReal.coe_lt_coe_iff, Nat.cast_lt]

/-! ## The printed constants -/

theorem ofBits_bot : Ideal.ofBits .f32 0xFF800000#32 = ⊥ := by simp [Ideal.ofBits, Ideal.ieee]
theorem ofBits_thirty : Ideal.ofBits .f32 0x41F00000#32 = ((30 : ℕ) : EReal) := by
  rw [← EReal.coe_natCast]
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_low : Ideal.ofBits .f32 0xFF61B1E6#32 ≤ 0 := by
  have : Ideal.ofBits .f32 0xFF61B1E6#32 = ((-(14791142 * 2 ^ 104) : ℝ) : EReal) := by
    simp [Ideal.ofBits, Ideal.ieee, -EReal.coe_mul]
  rw [this, ← EReal.coe_zero, EReal.coe_le_coe_iff]; norm_num

/-! ## The activation -/

/-- The activation of a logit. -/
def act (x : EReal) : EReal := max (Ideal.tanh (Ideal.ofBits .f32 0x40400000#32 * x)) 0

theorem real_tanh_lt {x y : ℝ} (h : x < y) : Real.tanh x < Real.tanh y := by
  rw [Real.tanh_eq_sinh_div_cosh, Real.tanh_eq_sinh_div_cosh, div_lt_div_iff₀ (Real.cosh_pos x) (Real.cosh_pos y)]
  have := Real.sinh_pos_iff.2 (sub_pos.2 h)
  rw [Real.sinh_sub] at this
  linarith [mul_comm (Real.cosh y) (Real.sinh x)]

theorem tanh_strictMono : StrictMono Ideal.tanh := by
  intro x y h
  induction x using EReal.rec <;> induction y using EReal.rec
  all_goals first
    | exact absurd h (lt_irrefl _)
    | exact absurd h (not_lt.2 bot_le)
    | exact absurd h (not_lt.2 le_top)
    | skip
  · rw [Ideal.tanh_bot, Ideal.tanh_coe, ← EReal.coe_one, ← EReal.coe_neg, EReal.coe_lt_coe_iff]
    exact Real.neg_one_lt_tanh _
  · rw [Ideal.tanh_bot, Ideal.tanh_top, ← EReal.coe_one, ← EReal.coe_neg, EReal.coe_lt_coe_iff]
    norm_num
  · rw [Ideal.tanh_coe, Ideal.tanh_coe, EReal.coe_lt_coe_iff]
    exact real_tanh_lt (EReal.coe_lt_coe_iff.1 h)
  · rw [Ideal.tanh_top, Ideal.tanh_coe, ← EReal.coe_one, EReal.coe_lt_coe_iff]
    exact Real.tanh_lt_one _

theorem three_mul_strictMono : StrictMono fun x : EReal => Ideal.ofBits .f32 0x40400000#32 * x := by
  intro x y h
  simp only [ofBits_three]
  have h3 : (0 : ℝ) < 3 := by norm_num
  induction x using EReal.rec <;> induction y using EReal.rec
  all_goals first
    | exact absurd h (lt_irrefl _)
    | exact absurd h (not_lt.2 bot_le)
    | exact absurd h (not_lt.2 le_top)
    | skip
  · rw [EReal.coe_mul_bot_of_pos h3, ← EReal.coe_mul]; exact EReal.bot_lt_coe _
  · rw [EReal.coe_mul_bot_of_pos h3, EReal.coe_mul_top_of_pos h3]; exact h
  · rw [← EReal.coe_mul, ← EReal.coe_mul, EReal.coe_lt_coe_iff]
    exact mul_lt_mul_of_pos_left (EReal.coe_lt_coe_iff.1 h) h3
  · rw [EReal.coe_mul_top_of_pos h3, ← EReal.coe_mul]; exact EReal.coe_lt_top _

/-- The activation is zero of a logit that is not positive. -/
theorem act_nonpos {x : EReal} (h : x ≤ 0) : act x = 0 := by
  refine max_eq_right ?_
  have h0 : Ideal.tanh (Ideal.ofBits .f32 0x40400000#32 * 0) = 0 := by
    rw [mul_zero]; exact (Ideal.tanh_coe (r := 0)).trans (by simp)
  exact h0 ▸ tanh_strictMono.monotone (three_mul_strictMono.monotone h)

/-- The activation is strictly increasing on positive logits, and positive there. -/
theorem act_lt {x y : EReal} (hy : 0 < y) (h : x < y) : act x < act y := by
  have h0 : Ideal.tanh (Ideal.ofBits .f32 0x40400000#32 * 0) = 0 := by
    rw [mul_zero]; exact (Ideal.tanh_coe (r := 0)).trans (by simp)
  have hy' := tanh_strictMono (three_mul_strictMono hy)
  simp only [h0] at hy'
  refine lt_of_lt_of_le (max_lt (tanh_strictMono (three_mul_strictMono h)) hy') (le_max_left _ _)

theorem act_monotone : Monotone act := fun x y h =>
  max_le_max (tanh_strictMono.monotone (three_mul_strictMono.monotone h)) le_rfl

end Cert.Rank

end
-- ==== Proof.Spec.lean ====
/- What both programs compute, over the extended reals and over the arguments: the logits, the adjacency that keeps the
   entries of rank below thirty in their row, and the perceptron of the features it propagates. -/
module

public import proofs.«01_k».proof.Proof.Rank
public import Idealize.ShloMosaic.Lib.Pointwise

@[expose] public section

set_option maxRecDepth 16384

noncomputable section

namespace Cert.Spec

open Idealize.ShloMosaic Idealize.ShloMosaic.TcCoe Idealize.SL.Sem Cert.Rank

/-- The kept activation of entry `j` of a row of logits. -/
def keep (l : Fin 2048 → EReal) (j : Fin 2048) : EReal := if above l (l j) < 30 then act (l j) else 0

/-- One feature of a node: the node's weights, normalised by their sum, against the nodes' features. -/
def mix (a x : Fin 2048 → EReal) : EReal := ∑ k, Ideal.div (a k) ((∑ k', a k') + Ideal.ofBits .f32 0x322BCC77#32) * x k

/-- The perceptron of two features. -/
def mlp (x5 : Fin 2 → Fin 64 → EReal) (x6 : Fin 64 → Fin 2 → EReal) (p q : EReal) (o : Fin 2) : EReal :=
  ∑ h : Fin 64, Ideal.tanh (p * x5 0 h + q * x5 1 h) * x6 h o

/-- Row `n` of the logits of two embeddings. -/
def logit (M₁ M₂ : FVec Ideal ⟨2, ![2048, 256]⟩ .f32) (n j : Fin 2048) : EReal :=
  (∑ k : Fin 256, M₁ (ix2 n k) * M₂ (ix2 j k)) - ∑ k : Fin 256, M₂ (ix2 n k) * M₁ (ix2 j k)

/-- Entry `(n, j)` of the adjacency. -/
def adj (M₁ M₂ : FVec Ideal ⟨2, ![2048, 256]⟩ .f32) (n j : Fin 2048) : EReal := keep (logit M₁ M₂ n) j

/-- Output feature `o` of node `n` at batch `b`, time `t`. -/
def out (X : FVec Ideal ⟨4, ![32, 12, 2048, 2]⟩ .f32) (M₁ M₂ : FVec Ideal ⟨2, ![2048, 256]⟩ .f32) (W₁ : FVec Ideal ⟨2, ![2, 64]⟩ .f32)
    (W₂ : FVec Ideal ⟨2, ![64, 2]⟩ .f32) (b : Fin 32) (t : Fin 12) (n : Fin 2048) (o : Fin 2) : EReal :=
  mlp (fun f h => W₁ (ix2 f h)) (fun h o => W₂ (ix2 h o)) (mix (adj M₁ M₂ n) fun k => X (ix4 b t k 0)) (mix (adj M₁ M₂ n) fun k => X (ix4 b t k 1)) o

end Cert.Spec

end
-- ==== Proof.KernelAdj.lean ====
/- What one grid point stores of the adjacency block, read at an index over the extended reals: the activation of the logit
   where fewer than thirty logits of its row are greater, and zero elsewhere. -/
module

public import proofs.«01_k».proof.Proof.BodyIdeal
public import proofs.«01_k».proof.Proof.Spec
public import Idealize.ShloMosaic.Lib.Pointwise

@[expose] public section

set_option maxRecDepth 16384

noncomputable section

namespace Cert.KernelIdeal.Adj

open Cert.KernelIdeal Cert.KernelIdeal.Gen Cert.KernelIdeal.Body Cert.Rank Cert.Spec
open Idealize.ShloMosaic Idealize.ShloMosaic.TcCoe Idealize.SL.Sem

section Steps
variable {F : FTy → Type} [FloatOps F]

/-- Each row's greatest entry, as a column. -/
def topCol (l : FVec F S256x2048 .f32) : FVec F S256x1 .f32 :=
  shapeCast S256x1 (multiReduction .maximumf [1] S256 l 0xFF800000#32 reduces_S256x2048_S256 (.inl rfl) rfl) shapeCasts_S256_S256x1
/-- Each row's greatest entry below the column's entry. -/
def nextCol (l : FVec F S256x2048 .f32) (t : FVec F S256x1 .f32) : FVec F S256x1 .f32 :=
  topCol (select (cmpf .olt l (broadcastTo S256x2048 t broadcasts_S256x1_S256x2048)) l (broadcast S256x2048 low))
/-- How many entries of each row are at or above the column's entry. -/
def cntCol (l : FVec F S256x2048 .f32) (t : FVec F S256x1 .f32) : FVec F S256x1 .f32 :=
  shapeCast S256x1 (multiReduction .add [1] S256 (select (cmpf .oge l (broadcastTo S256x2048 t broadcasts_S256x1_S256x2048))
    (broadcast S256x2048 (Scalar.ofBits .f32 0x3F800000#32)) (broadcast S256x2048 (Scalar.ofBits .f32 0x00000000#32)))
    0x00000000#32 reduces_S256x2048_S256 (.inl rfl) rfl) shapeCasts_S256_S256x1
/-- One step of the counted walk. -/
def countStep (l : FVec F S256x2048 .f32) (t : FVec F S256x1 .f32) : FVec F S256x1 .f32 :=
  select (cmpf .olt (cntCol l t) (broadcast S256x1 (Scalar.ofBits .f32 0x41F00000#32))) (nextCol l t) t
/-- A column along the scratch buffer's lanes. -/
def lanes (t : FVec F S256x1 .f32) : FVec F S256x128 .f32 :=
  shapeCast S256x128 (broadcastTo S256x128 (shapeCast S256x1 t shapeCasts_S256x1_S256x1) broadcasts_S256x1_S256x128) shapeCasts_S256x128_S256x128

/-- The two walks, step by step. -/
def distinctCol (l : FVec F S256x2048 .f32) : ℕ → FVec F S256x1 .f32
  | 0 => topCol l
  | n + 1 => nextCol l (distinctCol l n)
def countedCol (l : FVec F S256x2048 .f32) : ℕ → FVec F S256x1 .f32
  | 0 => topCol l
  | n + 1 => countStep l (countedCol l n)

/-- The printed stretches of the distinct walk are its twenty-nine steps. -/
theorem distinct_eq (x0 x1 : Vec F S256x256 .f32) (x2 x3 : Vec F S2048x256 .f32) :
    k0_pay36 (logits x0 x1 x2 x3) (k0_pay34 (logits x0 x1 x2 x3) (step2 (logits x0 x1 x2 x3) (step1 x0 x1 x2 x3))) k0_pay35
      = distinctCol (logits x0 x1 x2 x3) 29 := by
  have h1 : step1 x0 x1 x2 x3 = distinctCol (logits x0 x1 x2 x3) 4 := rfl
  rw [h1]
  generalize logits x0 x1 x2 x3 = l
  have h2 : ∀ t, step2 l t = (nextCol l)^[15] t := fun t => rfl
  have h3 : ∀ t, k0_pay36 l (k0_pay34 l t) k0_pay35 = (nextCol l)^[10] t := fun t => rfl
  rw [h2, h3]
  rfl

/-- The printed stretches of the counted walk are its twenty-nine steps. -/
theorem counted_eq (l : FVec F S256x2048 .f32) : countedScr l = lanes (countedCol l 29) := by
  have w1 : walk1 l = (countedCol l 2, cntCol l (countedCol l 2), select (cmpf .olt l (broadcastTo S256x2048 (countedCol l 2) broadcasts_S256x1_S256x2048)) l (broadcast S256x2048 low)) := rfl
  have w2 : walk2 l = (countedCol l 5, cntCol l (countedCol l 5), cmpf .olt l (broadcastTo S256x2048 (countedCol l 5) broadcasts_S256x1_S256x2048)) := by
    rw [walk2, w1]; generalize h : countedCol l 2 = t
    have e : countedCol l 5 = (countStep l)^[3] t := by rw [← h]; rfl
    rw [e]; rfl
  have w3 : walk3 l = (countedCol l 8, multiReduction .add [1] S256 (select (cmpf .oge l (broadcastTo S256x2048 (countedCol l 8) broadcasts_S256x1_S256x2048))
    (broadcast S256x2048 (Scalar.ofBits .f32 0x3F800000#32)) (broadcast S256x2048 (Scalar.ofBits .f32 0x00000000#32)))
    0x00000000#32 reduces_S256x2048_S256 (.inl rfl) rfl) := by
    rw [walk3, w2]; generalize h : countedCol l 5 = t
    have e : countedCol l 8 = (countStep l)^[3] t := by rw [← h]; rfl
    rw [e]; rfl
  have w4 : walk4 l = (countedCol l 11, cmpf .oge l (broadcastTo S256x2048 (countedCol l 11) broadcasts_S256x1_S256x2048)) := by
    rw [walk4, w3]; generalize h : countedCol l 8 = t
    have e : countedCol l 11 = (countStep l)^[3] t := by rw [← h]; rfl
    rw [e]; rfl
  have w5 : walk5 l = (countedCol l 14, cmpf .oge l (broadcastTo S256x2048 (countedCol l 14) broadcasts_S256x1_S256x2048)) := by
    rw [walk5, w4]; generalize h : countedCol l 11 = t
    have e : countedCol l 14 = (countStep l)^[3] t := by rw [← h]; rfl
    rw [e]; rfl
  have w6 : walk6 l = countedCol l 17 := by
    rw [walk6, w5]; generalize h : countedCol l 14 = t
    have e : countedCol l 17 = (countStep l)^[3] t := by rw [← h]; rfl
    rw [e]; rfl
  have w8 : walk8 l = (countedCol l 22, cntCol l (countedCol l 22), select (cmpf .olt l (broadcastTo S256x2048 (countedCol l 22) broadcasts_S256x1_S256x2048)) l (broadcast S256x2048 low)) := by
    rw [walk8, w6]; generalize h : countedCol l 17 = t
    have e : countedCol l 22 = (countStep l)^[5] t := by rw [← h]; rfl
    rw [e]; rfl
  have w9 : walk9 l = (countedCol l 25, cntCol l (countedCol l 25), cmpf .olt l (broadcastTo S256x2048 (countedCol l 25) broadcasts_S256x1_S256x2048)) := by
    rw [walk9, w8]; generalize h : countedCol l 22 = t
    have e : countedCol l 25 = (countStep l)^[3] t := by rw [← h]; rfl
    rw [e]; rfl
  rw [countedScr, w9]; generalize h : countedCol l 25 = t
  have e : countedCol l 29 = (countStep l)^[4] t := by rw [← h]; rfl
  rw [e]; rfl

/-- The flag the branch tests: the greatest, over the rows, of one where more than thirty entries are counted. -/
def flag (l : FVec F S256x2048 .f32) (t : FVec F S256x1 .f32) : F .f32 :=
  extractAt ![0, 0, 0] (shapeCast S1x1x1 (multiReduction .maximumf [1, 2] S1 (shapeCast S1x256x1
    (select (cmpf .ogt (cntCol l t) (broadcast S256x1 (Scalar.ofBits .f32 0x41F00000#32))) (broadcast S256x1 (Scalar.ofBits .f32 0x3F800000#32))
      (broadcast S256x1 (Scalar.ofBits .f32 0x00000000#32))) shapeCasts_S256x1_S1x256x1) 0xFF800000#32 reduces_S1x256x1_S1 (.inl rfl) rfl) shapeCasts_S1_S1x1x1) inpos_S1x1x1_p0_0_0

/-- What the scratch buffer holds after the first half, by the two walks. -/
theorem scr_eq (x0 x1 : Vec F S256x256 .f32) (x2 x3 : Vec F S2048x256 .f32) :
    scr (logits x0 x1 x2 x3) (step1 x0 x1 x2 x3)
      = if Scalar.cmpi .ne (Scalar.extui (Scalar.cmpf .ogt (flag (logits x0 x1 x2 x3) (distinctCol (logits x0 x1 x2 x3) 29)) (Scalar.ofBits .f32 0x00000000#32)) : BitVec 32) 0#32 = 1#1
        then lanes (countedCol (logits x0 x1 x2 x3) 29) else lanes (distinctCol (logits x0 x1 x2 x3) 29) := by
  rw [scr, counted_eq, ← distinct_eq]
  rfl

end Steps

section Values

/-- Row `r` of a block. -/
abbrev row (l : FVec Ideal S256x2048 .f32) (r : Fin 256) : Fin 2048 → EReal := fun k => l (ix2 r k)

abbrev bot : EReal := Ideal.ofBits .f32 0xFF800000#32
abbrev lo : EReal := Ideal.ofBits .f32 0xFF61B1E6#32

theorem topCol_apply (l : FVec Ideal S256x2048 .f32) (r : Fin 256) : topCol l (ix2 r 0) = top bot (row l r) := by
  pointwise [topCol, top]

theorem nextCol_apply (l : FVec Ideal S256x2048 .f32) (t : FVec Ideal S256x1 .f32) (r : Fin 256) :
    nextCol l t (ix2 r 0) = next bot lo (row l r) (t (ix2 r 0)) := by
  pointwise [nextCol, topCol, next]

theorem cntCol_apply (l : FVec Ideal S256x2048 .f32) (t : FVec Ideal S256x1 .f32) (r : Fin 256) :
    cntCol l t (ix2 r 0) = (atLeast (row l r) (t (ix2 r 0)) : EReal) := by
  rw [atLeast, ← sum_ones]
  pointwise [cntCol]

theorem countStep_apply (l : FVec Ideal S256x2048 .f32) (t : FVec Ideal S256x1 .f32) (r : Fin 256) :
    countStep l t (ix2 r 0) = if atLeast (row l r) (t (ix2 r 0)) < 30 then next bot lo (row l r) (t (ix2 r 0)) else t (ix2 r 0) := by
  have h := cntCol_apply l t r
  have h' := nextCol_apply l t r
  pointwise [countStep]
  rw [h, h', ofBits_thirty]
  simp only [natCast_lt]

theorem distinctCol_apply (l : FVec Ideal S256x2048 .f32) (n : ℕ) (r : Fin 256) :
    distinctCol l n (ix2 r 0) = distinct bot lo (row l r) n := by
  induction n with
  | zero => exact topCol_apply l r
  | succ n ih => rw [distinctCol, nextCol_apply, ih, distinct]

theorem countedCol_apply (l : FVec Ideal S256x2048 .f32) (n : ℕ) (r : Fin 256) :
    countedCol l n (ix2 r 0) = counted 30 bot lo (row l r) n := by
  induction n with
  | zero => exact topCol_apply l r
  | succ n ih => rw [countedCol, countStep_apply, ih, counted]

theorem lanes_apply (t : FVec Ideal S256x1 .f32) (r : Fin 256) (a : Fin 128) : lanes t (ix2 r a) = t (ix2 r 0) := by
  pointwise [lanes]

/-- Where the flag is not positive, no row counts more than thirty entries. -/
theorem atLeast_le_of_flag (l : FVec Ideal S256x2048 .f32) (t : FVec Ideal S256x1 .f32) (h : ¬ (0 : EReal) < flag l t) (r : Fin 256) :
    atLeast (row l r) (t (ix2 r 0)) ≤ 30 := by
  have hc := cntCol_apply l t r
  by_contra hgt
  refine h ?_
  pointwise [flag]
  refine (Finset.lt_fold_max _).2 (.inr ⟨(r, 0), Finset.mem_univ _, ?_⟩)
  show (0 : EReal) < if Ideal.ofBits FTy.f32 1106247680#32 < cntCol l t (ix2 r 0) then 1 else 0
  rw [hc, ofBits_thirty, if_pos (natCast_lt.2 (by omega))]
  exact zero_lt_one

theorem bot_le_lo : bot ≤ lo := by rw [bot, ofBits_bot]; exact bot_le

/-- Whichever walk the flag chooses, a positive logit is at or above its threshold exactly when fewer than thirty of its
    row are greater. -/
theorem walk_le_iff (l : FVec Ideal S256x2048 .f32) (r : Fin 256) (j : Fin 2048) (n : ℕ) (hn : n + 1 = 30) (bit : BitVec 1)
    (hbit : bit ≠ 1#1 → ¬ (0 : EReal) < flag l (distinctCol l n)) (hj : (0 : EReal) < l (ix2 r j)) :
    ((if bit = 1#1 then lanes (countedCol l n) else lanes (distinctCol l n)) (ix2 r 0) : EReal) ≤ l (ix2 r j)
      ↔ above (row l r) (l (ix2 r j)) < 30 := by
  have hlo : lo ≤ l (ix2 r j) := ofBits_low.trans hj.le
  by_cases hb : bit = 1#1
  · rw [if_pos hb, lanes_apply, countedCol_apply]
    exact counted_le_iff bot_le_lo hn hlo
  · rw [if_neg hb]
    have hc := atLeast_le_of_flag l _ (hbit hb) r
    rw [distinctCol_apply] at hc
    rw [lanes_apply, distinctCol_apply]
    exact distinct_le_iff bot_le_lo hn hc j hlo

/-- The branch's bit is set where the flag is positive. -/
theorem bit_of_pos (x : EReal) (h : 0 < x) :
    Scalar.cmpi .ne (Scalar.extui (Scalar.cmpf (F := Ideal) (φ := .f32) .ogt x (Scalar.ofBits .f32 0x00000000#32)) : BitVec 32) 0#32 = 1#1 := by
  have : Scalar.cmpf (F := Ideal) (φ := .f32) .ogt x (Scalar.ofBits .f32 0x00000000#32) = 1#1 := by
    pointwise
    rw [decide_eq_true h]; rfl
  rw [this]; decide

/-- THE THRESHOLD: a positive logit is at or above the one in the scratch buffer exactly when fewer than thirty of its
    row are greater. -/
theorem scr_le_iff (x0 x1 : Vec Ideal S256x256 .f32) (x2 x3 : Vec Ideal S2048x256 .f32) (r : Fin 256) (j : Fin 2048)
    (hj : (0 : EReal) < logits x0 x1 x2 x3 (ix2 r j)) :
    (scr (logits x0 x1 x2 x3) (step1 x0 x1 x2 x3) (ix2 r 0) : EReal) ≤ logits x0 x1 x2 x3 (ix2 r j)
      ↔ above (row (logits x0 x1 x2 x3) r) (logits x0 x1 x2 x3 (ix2 r j)) < 30 := by
  rw [scr_eq]
  exact walk_le_iff _ r j 29 rfl _ (fun hf h0 => hf (bit_of_pos _ h0)) hj

theorem theta_apply (x0 x1 : Vec Ideal S256x256 .f32) (x2 x3 : Vec Ideal S2048x256 .f32) (i : S256x2048.Idx) :
    theta x0 x1 x2 x3 i = act (logits x0 x1 x2 x3 i) := by
  unfold theta k0_pay29
  show _ = act (k0_pay28 x0 x1 x3 x2 i)
  generalize k0_pay28 x0 x1 x3 x2 = l
  pointwise [act]

theorem lane0_apply (xs : Vec Ideal S256x128 .f32) (r : Fin 256) : lane0 xs (ix2 r 0) = xs (ix2 r 0) :=
  congrArg xs (by idx_ext)

/-- The kept entry at an index. -/
theorem pay40_apply (l th : FVec Ideal S256x2048 .f32) (t : FVec Ideal S256x1 .f32) (r : Fin 256) (j : Fin 2048) :
    k0_pay40 l th t (ix2 r j) = if t (ix2 r 0) ≤ l (ix2 r j) then th (ix2 r j) else (0 : EReal) := by
  pointwise [k0_pay40]

theorem keep_of_iff (row : Fin 2048 → EReal) (j : Fin 2048) (t th : EReal) (hth : th = act (row j))
    (h : 0 < row j → (t ≤ row j ↔ above row (row j) < 30)) : (if t ≤ row j then th else 0) = keep row j := by
  unfold keep
  by_cases hj : 0 < row j
  · simp only [h hj, hth]
  · rw [hth, act_nonpos (not_lt.1 hj)]; simp

/-- THE ADJACENCY BLOCK at an index. -/
theorem adjOf_apply (x0 x1 : Vec Ideal S256x256 .f32) (x2 x3 : Vec Ideal S2048x256 .f32) (r : Fin 256) (j : Fin 2048) :
    adjOf x0 x1 x2 x3 (ix2 r j) = keep (row (logits x0 x1 x2 x3) r) j := by
  unfold adjOf adjBlk
  rw [pay40_apply, lane0_apply, theta_apply]
  exact keep_of_iff (row (logits x0 x1 x2 x3) r) j _ _ rfl (scr_le_iff x0 x1 x2 x3 r j)

/-- A logit is its two contractions' difference. -/
theorem logits_apply (x0 x1 : Vec Ideal S256x256 .f32) (x2 x3 : Vec Ideal S2048x256 .f32) (r : Fin 256) (j : Fin 2048) :
    logits x0 x1 x2 x3 (ix2 r j) = (∑ k : Fin 256, x0 (ix2 r k) * x3 (ix2 j k)) - ∑ k : Fin 256, x1 (ix2 r k) * x2 (ix2 j k) := by
  pointwise [logits, k0_pay28]

end Values

end Cert.KernelIdeal.Adj

end
-- ==== Proof.KernelOut.lean ====
/- What one grid point stores of the output block, read at an index over the extended reals: the two-layer perceptron of the
   two propagated features of its node. -/
module

public import proofs.«01_k».proof.Proof.KernelAdj

@[expose] public section

set_option maxRecDepth 16384

noncomputable section

namespace Cert.KernelIdeal.Out

open Cert.KernelIdeal Cert.KernelIdeal.Gen Cert.KernelIdeal.Body Cert.KernelIdeal.Adj Cert.Rank Cert.Spec
open Idealize.ShloMosaic Idealize.ShloMosaic.TcCoe Idealize.SL.Sem

theorem cell1_apply (w : Vec Ideal S2x64 .f32) (a : Fin 2) (h : Fin 64) : cell1 w a.val h.val (ix2 0 0) = w (ix2 a h) :=
  congrArg w (by
    funext k; apply Fin.ext
    match k with
    | ⟨0, _⟩ => exact Nat.mod_eq_of_lt a.isLt
    | ⟨1, _⟩ => exact Nat.mod_eq_of_lt h.isLt)

theorem cell2_apply (w : Vec Ideal S64x2 .f32) (h : Fin 64) (o : Fin 2) : cell2 w h.val o.val (ix2 0 0) = w (ix2 h o) :=
  congrArg w (by
    funext k; apply Fin.ext
    match k with
    | ⟨0, _⟩ => exact Nat.mod_eq_of_lt h.isLt
    | ⟨1, _⟩ => exact Nat.mod_eq_of_lt o.isLt)

theorem unit_apply (p q : FVec Ideal S256x384 .f32) (w0 w1 : FVec Ideal S1x1 .f32) (r : Fin 256) (c : Fin 384) :
    tanh (addf (mulf p (broadcastTo S256x384 w0 broadcasts_S1x1_S256x384)) (mulf q (broadcastTo S256x384 w1 broadcasts_S1x1_S256x384))) (ix2 r c)
      = Ideal.tanh (p (ix2 r c) * w0 (ix2 0 0) + q (ix2 r c) * w1 (ix2 0 0)) := by
  pointwise

/-- A hidden unit at an index. -/
theorem hidden_apply (p q : FVec Ideal S256x384 .f32) (x5 : Vec Ideal S2x64 .f32) (h : Fin 64) (r : Fin 256) (c : Fin 384) :
    hidden p q x5 h.val (ix2 r c) = Ideal.tanh (p (ix2 r c) * x5 (ix2 0 h) + q (ix2 r c) * x5 (ix2 1 h)) := by
  rw [Body.hidden, unit_apply, ← cell1_apply x5 0 h, ← cell1_apply x5 1 h]
  rfl

theorem accStep_apply (a b : FVec Ideal S256x384 .f32) (d : FVec Ideal S1x1 .f32) (r : Fin 256) (c : Fin 384) :
    addf a (mulf b (broadcastTo S256x384 d broadcasts_S1x1_S256x384)) (ix2 r c) = a (ix2 r c) + b (ix2 r c) * d (ix2 0 0) := by
  pointwise

/-- The running output feature is the sum over the hidden units so far. -/
theorem acc_apply (p q : FVec Ideal S256x384 .f32) (x5 : Vec Ideal S2x64 .f32) (x6 : Vec Ideal S64x2 .f32) (o : Fin 2) (r : Fin 256) (c : Fin 384) (n : ℕ) :
    acc p q x5 x6 o.val n (ix2 r c) = ∑ h ∈ Finset.range n, hidden p q x5 h (ix2 r c) * cell2 x6 h o.val (ix2 0 0) := by
  induction n with
  | zero =>
    rw [Finset.sum_range_zero]
    pointwise [acc]
  | succ n ih =>
    rw [Finset.sum_range_succ, ← ih, acc, accStep_apply]

/-- An output feature at an index. -/
theorem acc64_apply (p q : FVec Ideal S256x384 .f32) (x5 : Vec Ideal S2x64 .f32) (x6 : Vec Ideal S64x2 .f32) (o : Fin 2) (r : Fin 256) (c : Fin 384) :
    acc p q x5 x6 o.val 64 (ix2 r c)
      = ∑ h : Fin 64, Ideal.tanh (p (ix2 r c) * x5 (ix2 0 h) + q (ix2 r c) * x5 (ix2 1 h)) * x6 (ix2 h o) := by
  rw [acc_apply, Finset.sum_range]
  exact Finset.sum_congr rfl fun h _ => by rw [hidden_apply, cell2_apply]

/-- Every feature propagated: the weights normalised by their row's sum, against the nodes' features. -/
def mixed (a : FVec Ideal S256x2048 .f32) (x4 : Vec Ideal S2048x768 .f32) : FVec Ideal S256x768 .f32 :=
  matmul dot_S256x2048_S2048x768_S256x768_1_0_0_1_n_n none
    (divf a (broadcastTo S256x2048 (addf (shapeCast S256x1 (multiReduction .add [1] S256 a 0x00000000#32 reduces_S256x2048_S256 (.inl rfl) rfl) shapeCasts_S256_S256x1)
      (broadcast S256x1 (Scalar.ofBits .f32 0x322BCC77#32))) broadcasts_S256x1_S256x2048))
    (shapeCast S2048x768 x4 shapeCasts_S2048x768_S2048x768 : FVec Ideal S2048x768 .f32) (constant S256x768 .f32 0x00000000#32)

theorem mixed_apply (a : FVec Ideal S256x2048 .f32) (x4 : Vec Ideal S2048x768 .f32) (r : Fin 256) (c : Fin 768) :
    mixed a x4 (ix2 r c) = mix (fun k => a (ix2 r k)) (fun k => x4 (ix2 k c)) := by
  pointwise [mixed, mix]

/-- The two propagated features at an index. -/
theorem prop0_apply (l th : FVec Ideal S256x2048 .f32) (xs : Vec Ideal S256x128 .f32) (x4 : Vec Ideal S2048x768 .f32) (r : Fin 256) (c : Fin 384) :
    prop0 l th xs x4 (ix2 r c) = mix (fun k => adjBlk l th xs (ix2 r k)) (fun k => x4 (ix2 k ⟨c.val, by omega⟩)) := by
  have e : prop0 l th xs x4 (ix2 r c) = mixed (adjBlk l th xs) x4 (ix2 r ⟨c.val, by omega⟩) :=
    congrArg (mixed (adjBlk l th xs) x4) (by idx_ext)
  rw [e, mixed_apply]

theorem prop1_apply (l th : FVec Ideal S256x2048 .f32) (xs : Vec Ideal S256x128 .f32) (x4 : Vec Ideal S2048x768 .f32) (r : Fin 256) (c : Fin 384) :
    prop1 l th xs x4 (ix2 r c) = mix (fun k => adjBlk l th xs (ix2 r k)) (fun k => x4 (ix2 k ⟨384 + c.val, by omega⟩)) := by
  have e : prop1 l th xs x4 (ix2 r c) = mixed (adjBlk l th xs) x4 (ix2 r ⟨384 + c.val, by omega⟩) :=
    congrArg (mixed (adjBlk l th xs) x4) (by idx_ext)
  rw [e, mixed_apply]

/-- Two blocks side by side at an index of the first and of the second. -/
theorem halves_left (a b : FVec Ideal S256x384 .f32) (r : Fin 256) (c : Fin 384) (k : Fin 768) (hk : k.val = c.val) :
    halves a b (ix2 r k) = a (ix2 r c) := by
  have h : k.val < 384 := by omega
  refine (dif_pos h).trans (congrArg a (funext fun d => Fin.ext ?_))
  match d with
  | ⟨0, _⟩ => rfl
  | ⟨1, _⟩ => exact hk

theorem halves_right (a b : FVec Ideal S256x384 .f32) (r : Fin 256) (c : Fin 384) (k : Fin 768) (hk : k.val = 384 + c.val) :
    halves a b (ix2 r k) = b (ix2 r c) := by
  have h : ¬ k.val < 384 := by omega
  refine (dif_neg h).trans (congrArg b (funext fun d => Fin.ext ?_))
  match d with
  | ⟨0, _⟩ => rfl
  | ⟨1, _⟩ => exact (by omega : k.val - 384 = c.val)

/-- The output block of two features at an index: output feature `o` in columns `384 * o + c`. -/
theorem outBlk_apply (p q : FVec Ideal S256x384 .f32) (x5 : Vec Ideal S2x64 .f32) (x6 : Vec Ideal S64x2 .f32) (r : Fin 256) (o : Fin 2) (c : Fin 384) :
    outBlk p q x5 x6 (ix2 r ⟨o.val * 384 + c.val, by omega⟩)
      = mlp (fun f h => x5 (ix2 f h)) (fun h o => x6 (ix2 h o)) (p (ix2 r c)) (q (ix2 r c)) o := by
  rw [mlp, ← acc64_apply p q x5 x6 o r c, outBlk]
  match o with
  | 0 => exact halves_left _ _ r c _ (by simp)
  | 1 => exact halves_right _ _ r c _ (by simp)

/-- THE OUTPUT BLOCK at an index. -/
theorem outOf_apply (x0 x1 : Vec Ideal S256x256 .f32) (x2 x3 : Vec Ideal S2048x256 .f32) (x4 : Vec Ideal S2048x768 .f32)
    (x5 : Vec Ideal S2x64 .f32) (x6 : Vec Ideal S64x2 .f32) (r : Fin 256) (o : Fin 2) (c : Fin 384) :
    outOf x0 x1 x2 x3 x4 x5 x6 (ix2 r ⟨o.val * 384 + c.val, by omega⟩)
      = mlp (fun f h => x5 (ix2 f h)) (fun h o => x6 (ix2 h o))
          (mix (keep (row (logits x0 x1 x2 x3) r)) fun k => x4 (ix2 k ⟨c.val, by omega⟩))
          (mix (keep (row (logits x0 x1 x2 x3) r)) fun k => x4 (ix2 k ⟨384 + c.val, by omega⟩)) o := by
  have hk : (fun k => adjBlk (logits x0 x1 x2 x3) (theta x0 x1 x2 x3) (scr (logits x0 x1 x2 x3) (step1 x0 x1 x2 x3)) (ix2 r k))
      = keep (row (logits x0 x1 x2 x3) r) := funext fun k => adjOf_apply x0 x1 x2 x3 r k
  rw [outOf, outBlk_apply, prop0_apply, prop1_apply, hk]

end Cert.KernelIdeal.Out

end
-- ==== Proof.KernelArrays.lean ====
/- The kernel's two results over the extended reals: the adjacency array after the eight blocks are written back, and the
   output array after the host's last reshape and transpose. -/
module

public import proofs.«01_k».proof.Proof.KernelOut
public import Idealize.ShloMosaic.Lib.Pipeline.ValueKit
public import Idealize.ShloMosaic.Lib.Claim

@[expose] public section

set_option maxRecDepth 16384

noncomputable section

namespace Cert.KernelIdeal.Arrays

open Cert.KernelIdeal Cert.KernelIdeal.Gen Cert.KernelIdeal.Body Cert.KernelIdeal.Adj Cert.KernelIdeal.Out Cert.Spec
open Idealize.ShloMosaic Idealize.ShloMosaic.TcCoe Idealize.SL.Sem
open Idealize.ShloMosaic.Pipeline (Dat)

variable (m : (ℓ : Loc nD τ sig) → Buf (Elt Ideal) ℓ)

/-- Where each window's block sits. -/
theorem idx : ∀ t : Fin cfg0.N, (t.val < 8 ∧ win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]) :=
  (by decide +kernel : ∀ t : Fin grid0.N, _)

abbrev X (c : Dev nD) : FVec Ideal S32x12x2048x2 .f32 := m ((c.tc : Thread nD τ).loc main_arg0)
abbrev M₁ (c : Dev nD) : FVec Ideal S2048x256 .f32 := m ((c.tc : Thread nD τ).loc main_arg4)
abbrev M₂ (c : Dev nD) : FVec Ideal S2048x256 .f32 := m ((c.tc : Thread nD τ).loc main_arg5)
abbrev W₁ (c : Dev nD) : FVec Ideal S2x64 .f32 := m ((c.tc : Thread nD τ).loc main_arg6)
abbrev W₂ (c : Dev nD) : FVec Ideal S64x2 .f32 := m ((c.tc : Thread nD τ).loc main_arg7)

/-- The node that row `r` of point `t` is. -/
abbrev node (t : Fin cfg0.N) (r : Fin 256) : Fin 2048 := ⟨t.val * 256 + r.val, by have := (idx t).1; omega⟩

theorem blk0 (c : Dev nD) (t : Fin cfg0.N) (r : Fin 256) (k : Fin 256) : (iblk m c 0 t : FVec Ideal S256x256 .f32) (ix2 r k) = M₁ m c (ix2 (node t r) k) := by
  blk_ext [iblk, V, idx t]
theorem blk1 (c : Dev nD) (t : Fin cfg0.N) (r : Fin 256) (k : Fin 256) : (iblk m c 1 t : FVec Ideal S256x256 .f32) (ix2 r k) = M₂ m c (ix2 (node t r) k) := by
  blk_ext [iblk, V, idx t]
theorem blk2 (c : Dev nD) (t : Fin cfg0.N) : iblk m c 2 t = M₁ m c := by blk_ext! [iblk, V, idx t]
theorem blk3 (c : Dev nD) (t : Fin cfg0.N) : iblk m c 3 t = M₂ m c := by blk_ext! [iblk, V, idx t]
theorem blk5 (c : Dev nD) (t : Fin cfg0.N) : iblk m c 5 t = W₁ m c := by blk_ext! [iblk, V, idx t]
theorem blk6 (c : Dev nD) (t : Fin cfg0.N) : iblk m c 6 t = W₂ m c := by blk_ext! [iblk, V, idx t]

/-- The host's first two operations at an index: feature `f` of node `n` at batch `b`, time `t` in column `384 * f + 12 * b + t`. -/
theorem staged_apply (x : FVec Ideal S32x12x2048x2 .f32) (n : Fin 2048) (f : Fin 2) (b : Fin 32) (t : Fin 12) :
    shapeCast S2048x768 (transpose S2048x2x32x12 [2, 3, 0, 1] x transposes_S32x12x2048x2_S2048x2x32x12_2_3_0_1 : FVec Ideal S2048x2x32x12 .f32)
      shapeCasts_S2048x2x32x12_S2048x768 (ix2 n ⟨f.val * 384 + b.val * 12 + t.val, by omega⟩) = x (ix4 b t n f) := by
  pointwise

/-- The host's last two at an index. -/
theorem returned_apply (y : FVec Ideal S2048x768 .f32) (n : Fin 2048) (o : Fin 2) (b : Fin 32) (t : Fin 12) :
    transpose S32x12x2048x2 [2, 3, 0, 1] (shapeCast S2048x2x32x12 y shapeCasts_S2048x768_S2048x2x32x12 : FVec Ideal S2048x2x32x12 .f32)
      transposes_S2048x2x32x12_S32x12x2048x2_2_3_0_1 (ix4 b t n o) = y (ix2 n ⟨o.val * 384 + b.val * 12 + t.val, by omega⟩) := by
  pointwise

theorem V_main_v1 (c : Dev nD) : (V m c main_v1 : FVec Ideal S2048x768 .f32)
    = shapeCast S2048x768 (transpose S2048x2x32x12 [2, 3, 0, 1] (X m c) transposes_S32x12x2048x2_S2048x2x32x12_2_3_0_1 : FVec Ideal S2048x2x32x12 .f32)
      shapeCasts_S2048x2x32x12_S2048x768 := by
  show StableHlo.after hostOps0 (fun b => m (c, b)) (Proc.devRef .tc main_v1) = _
  after_results
  rfl

theorem after_main_v4 (σ : Valuation τ sig (Elt Ideal)) : StableHlo.after (hostOps1 (F := Ideal)) σ (Proc.devRef .tc main_v4)
    = transpose S32x12x2048x2 [2, 3, 0, 1] (shapeCast S2048x2x32x12 (show FVec Ideal S2048x768 .f32 from σ (Proc.devRef .tc main_v2_1)) shapeCasts_S2048x768_S2048x2x32x12 : FVec Ideal S2048x2x32x12 .f32)
      transposes_S2048x2x32x12_S32x12x2048x2_2_3_0_1 := by
  after_results
  rfl

/-- The staged inputs. -/
theorem blk4 (c : Dev nD) (t : Fin cfg0.N) (n : Fin 2048) (f : Fin 2) (b : Fin 32) (t' : Fin 12) :
    (iblk m c 4 t : FVec Ideal S2048x768 .f32) (ix2 n ⟨f.val * 384 + b.val * 12 + t'.val, by omega⟩) = X m c (ix4 b t' n f) := by
  have e : iblk m c 4 t = (V m c main_v1 : FVec Ideal S2048x768 .f32) := by blk_ext! [iblk, idx t]
  rw [e, V_main_v1]
  exact staged_apply _ n f b t'

/-- A row of a point's logits is its node's. -/
theorem row_eq (c : Dev nD) (t : Fin cfg0.N) (r : Fin 256) :
    row (logits (iblk m c 0 t) (iblk m c 1 t) (iblk m c 2 t) (iblk m c 3 t)) r = logit (M₁ m c) (M₂ m c) (node t r) := by
  funext j
  rw [blk2, blk3]
  refine (logits_apply _ _ _ _ r j).trans ?_
  exact congrArg₂ (· - ·) (Finset.sum_congr rfl fun k _ => by rw [← blk0]) (Finset.sum_congr rfl fun k _ => by rw [← blk1])

theorem covers7 : (cfg0.win 7).Covers := by decide +kernel
theorem covers8 : (cfg0.win 8).Covers := by decide +kernel

/-- The adjacency's array after the run, of any blocks. -/
theorem assemble7 (c : Dev nD) (d : Dat τ (Elt Ideal) Unit ℕ (UR sig nD τ) ℕ cfg0 c) (G : FVec Ideal S2048x2048 .f32) (B : Fin cfg0.N → FVec Ideal S256x2048 .f32)
    (hd : ∀ t, d.after 7 t = B t) (h : ∀ t r j, B t (ix2 r j) = G (ix2 (node t r) j)) : d.arrAt 7 cfg0.N = G := by
  refine d.arrAt_eq_of_covers 7 _ covers7 fun t _ y => ?_
  blk_simp
  rw [hd]
  refine (congrArg (B t) (?_ : _ = ix2 (y 0) (y 1))).trans ((h t (y 0) (y 1)).trans ?_)
  · idx_ext
  · blk_ext [idx t]

/-- The output's array after the run, of any blocks. -/
theorem assemble8 (c : Dev nD) (d : Dat τ (Elt Ideal) Unit ℕ (UR sig nD τ) ℕ cfg0 c) (G : FVec Ideal S2048x768 .f32) (B : Fin cfg0.N → FVec Ideal S256x768 .f32)
    (hd : ∀ t, d.after 8 t = B t) (h : ∀ t r q, B t (ix2 r q) = G (ix2 (node t r) q)) : d.arrAt 8 cfg0.N = G := by
  refine d.arrAt_eq_of_covers 8 _ covers8 fun t _ y => ?_
  blk_simp
  rw [hd]
  refine (congrArg (B t) (?_ : _ = ix2 (y 0) (y 1))).trans ((h t (y 0) (y 1)).trans ?_)
  · idx_ext
  · blk_ext [idx t]

/-- An array over nodes, whose columns run through output feature, batch and time. -/
def flat (g : Fin 32 → Fin 12 → Fin 2048 → Fin 2 → EReal) : FVec Ideal S2048x768 .f32 := fun i =>
  have hi : (i 1).val < 768 := (i 1).isLt
  g ⟨(i 1).val % 384 / 12, by omega⟩ ⟨(i 1).val % 12, by omega⟩ (i 0) ⟨(i 1).val / 384, by omega⟩

theorem flat_apply (g : Fin 32 → Fin 12 → Fin 2048 → Fin 2 → EReal) (n : Fin 2048) (o : Fin 2) (b : Fin 32) (t : Fin 12) :
    flat g (ix2 n ⟨o.val * 384 + b.val * 12 + t.val, by omega⟩) = g b t n o := by
  have e1 : (⟨(o.val * 384 + b.val * 12 + t.val) % 384 / 12, by omega⟩ : Fin 32) = b := Fin.ext (by show _ / 12 = _; omega)
  have e2 : (⟨(o.val * 384 + b.val * 12 + t.val) % 12, by omega⟩ : Fin 12) = t := Fin.ext (by show _ % 12 = _; omega)
  have e3 : (⟨(o.val * 384 + b.val * 12 + t.val) / 384, by omega⟩ : Fin 2) = o := Fin.ext (by show _ / 384 = _; omega)
  show g ⟨(o.val * 384 + b.val * 12 + t.val) % 384 / 12, _⟩ ⟨(o.val * 384 + b.val * 12 + t.val) % 12, _⟩ n ⟨(o.val * 384 + b.val * 12 + t.val) / 384, _⟩ = _
  rw [e1, e2, e3]

/-- Every column is one output feature's, at one batch and time. -/
theorem column (q : Fin 768) : ∃ (o : Fin 2) (b : Fin 32) (t : Fin 12), q = ⟨o.val * 384 + b.val * 12 + t.val, by omega⟩ :=
  ⟨⟨q.val / 384, by omega⟩, ⟨q.val % 384 / 12, by omega⟩, ⟨q.val % 12, by omega⟩, Fin.ext (by show q.val = _ / 384 * 384 + _ / 12 * 12 + _ % 12; omega)⟩

/-- THE ADJACENCY after the run. -/
def adjArr (c : Dev nD) : FVec Ideal S2048x2048 .f32 := fun i => adj (M₁ m c) (M₂ m c) (i 0) (i 1)

theorem final7 (c : Dev nD) : (dats m 0 c).arrAt 7 cfg0.N = adjArr m c :=
  assemble7 c _ _ _ (after0_7 m c) fun t r j => by
    rw [adjOf_apply, row_eq]; rfl

/-- THE OUTPUT after the run, before the host's last two operations. -/
def outArr (c : Dev nD) : FVec Ideal S2048x768 .f32 := flat (out (X m c) (M₁ m c) (M₂ m c) (W₁ m c) (W₂ m c))

theorem feature (c : Dev nD) (t : Fin cfg0.N) (f : Fin 2) (b : Fin 32) (t' : Fin 12) (q : Fin 768) (hq : q.val = f.val * 384 + b.val * 12 + t'.val) :
    (fun k : Fin 2048 => (iblk m c 4 t : FVec Ideal S2048x768 .f32) (ix2 k q)) = fun k => X m c (ix4 b t' k f) := by
  have hlt : f.val * 384 + b.val * 12 + t'.val < 768 := hq ▸ q.isLt
  obtain rfl : q = ⟨f.val * 384 + b.val * 12 + t'.val, hlt⟩ := Fin.ext hq
  exact funext fun k => blk4 m c t k f b t'

theorem final8 (c : Dev nD) : (dats m 0 c).arrAt 8 cfg0.N = outArr m c :=
  assemble8 c _ _ _ (after0_8 m c) fun t r q => by
    obtain ⟨o, b, t', rfl⟩ := column q
    rw [outArr, flat_apply]
    have h := outOf_apply (iblk m c 0 t) (iblk m c 1 t) (iblk m c 2 t) (iblk m c 3 t) (iblk m c 4 t) (iblk m c 5 t) (iblk m c 6 t) r o ⟨b.val * 12 + t'.val, by omega⟩
    rw [blk5, blk6] at h ⊢
    rw [row_eq, feature m c t 0 b t' _ (by simp), feature m c t 1 b t' _ (by simp; omega)] at h
    simp only [← Nat.add_assoc] at h
    rw [h, out]
    rfl

/-- THE OUTPUT after the host's last two operations. -/
def outRes (c : Dev nD) : FVec Ideal S32x12x2048x2 .f32 := fun i => out (X m c) (M₁ m c) (M₂ m c) (W₁ m c) (W₂ m c) (i 0) (i 1) (i 2) (i 3)

theorem returned_flat (g : Fin 32 → Fin 12 → Fin 2048 → Fin 2 → EReal) :
    (transpose S32x12x2048x2 [2, 3, 0, 1] (shapeCast S2048x2x32x12 (flat g) shapeCasts_S2048x768_S2048x2x32x12 : FVec Ideal S2048x2x32x12 .f32)
      transposes_S2048x2x32x12_S32x12x2048x2_2_3_0_1 : FVec Ideal S32x12x2048x2 .f32) = fun i => g (i 0) (i 1) (i 2) (i 3) := by
  funext i
  idx_vars i
  exact (returned_apply _ _ _ _ _).trans (flat_apply _ _ _ _ _)

/-- Two windows on one array are inputs. -/
theorem shared_in : ∀ w w' : Fin 9, w ≠ w' → Pipeline.arrRef spec0 w = Pipeline.arrRef spec0 w' → (cfg0.win w).isOut = false := by decide

theorem tail_eq (c : Dev nD) : Pipeline.afterTail₀ cfgs (dats m) 0 (V0 m) [hostOps1] c main_v4 = outRes m c := by
  unfold Pipeline.afterTail₀
  refine (after_main_v4 _).trans ?_
  refine Eq.trans (congrArg (fun y : FVec Ideal S2048x768 .f32 => (transpose S32x12x2048x2 [2, 3, 0, 1] (shapeCast S2048x2x32x12 y shapeCasts_S2048x768_S2048x2x32x12 : FVec Ideal S2048x2x32x12 .f32)
      transposes_S2048x2x32x12_S32x12x2048x2_2_3_0_1 : FVec Ideal S32x12x2048x2 .f32)) (?_ : _ = outArr m c)) (returned_flat _)
  refine (Pipeline.withArrays_arr_shared (cfgs 0).spec c (V0 m c) (fun w => (dats m 0 c).arrAt w (cfgs 0).N) ?_ 8).trans (final8 m c)
  intro w w' hne e
  have hin : (cfg0.win w).isOut = false := shared_in w w' hne e
  exact ((dats m 0 c).arrAt_in w hin _).trans (A_eq m c w)

/-- THE RUN: both results, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v2_0) = adjArr m c
      ∧ r.2.mem ((c.tc : Thread nD τ).loc main_v4) = outRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun r h c => ⟨((h.1 c).1 7).trans (final7 m c), ((h.1 c).2 main_v4 (by decide)).trans (tail_eq m c), h.2 c⟩)
    (θ_run_and (run_main m ρ) (unchanged m ρ))

end Cert.KernelIdeal.Arrays

end
-- ==== Proof.SortedRow.lean ====
/- A row of extended reals sorted from its greatest entry down: where an entry stands, counted by the entries above it.
   The first `K` of the sorted activations are the entries with fewer than `K` above them, given that the row's `K`-th and
   next entry differ or that the `K`-th is not positive. -/
module

public import proofs.«01_k».proof.Proof.Spec
public import Idealize.ShloMosaic.Lib.SortFacts

@[expose] public section

noncomputable section

namespace Cert.SortedRow

open Idealize.ShloMosaic Cert.Rank

variable {N : ℕ} (x : Fin N → EReal)

/-- The entry standing at each position of the sorted row, equal entries in the row's own order. -/
def ord : Fin N → Fin N := sortedFrom fun k k' => Ideal.cmp .ogt (x k) (x k') == 1#1

variable {x}

theorem cmp_gt (a b : EReal) : (Ideal.cmp .ogt a b == 1#1) = decide (b < a) := by
  by_cases h : b < a <;> simp [Ideal.cmp, h]

theorem ord_injective : Function.Injective (ord x) := sortedFrom_injective _

theorem ord_surjective : Function.Surjective (ord x) := sortedFrom_surjective _

theorem ord_le {i j : Fin N} (h : i ≤ j) : x (ord x j) ≤ x (ord x i) := by
  rcases h.eq_or_lt with rfl | h
  · exact le_rfl
  · have := sortedFrom_noInversion (fun k k' => Ideal.cmp .ogt (x k) (x k') == 1#1)
      (fun k k' => Ideal.cmp .ogt (x k) (x k') == 1#1)
      (by simpa only [cmp_gt, decide_eq_true_eq, decide_eq_false_iff_not, not_lt] using fun a b h => le_of_lt h)
      (fun _ _ h => h)
      (by simpa only [cmp_gt, decide_eq_false_iff_not, not_lt] using fun a b c h h' => h.trans h') i j h
    rw [cmp_gt] at this
    exact not_lt.1 (of_decide_eq_false this)

/-- The entries above a value that none of the positions from `i` on exceeds. -/
theorem above_le (i : ℕ) {a : EReal} (h : ∀ j : Fin N, i ≤ j.val → x (ord x j) ≤ a) : above x a ≤ i := by
  have hs : (Finset.univ.filter fun k => a < x k) ⊆ (Finset.univ.filter fun j : Fin N => j.val < i).image (ord x) := by
    intro k hk
    obtain ⟨j, rfl⟩ := ord_surjective (x := x) k
    refine Finset.mem_image_of_mem _ (Finset.mem_filter.2 ⟨Finset.mem_univ _, ?_⟩)
    by_contra hj
    exact absurd (Finset.mem_filter.1 hk).2 (not_lt.2 (h j (not_lt.1 hj)))
  refine (Finset.card_le_card hs).trans (Finset.card_image_le.trans ?_)
  rw [Fin.card_filter_val_lt]
  exact min_le_right _ _

theorem atLeast_le (i : ℕ) {a : EReal} (h : ∀ j : Fin N, i ≤ j.val → x (ord x j) < a) : atLeast x a ≤ i := by
  have hs : (Finset.univ.filter fun k => a ≤ x k) ⊆ (Finset.univ.filter fun j : Fin N => j.val < i).image (ord x) := by
    intro k hk
    obtain ⟨j, rfl⟩ := ord_surjective (x := x) k
    refine Finset.mem_image_of_mem _ (Finset.mem_filter.2 ⟨Finset.mem_univ _, ?_⟩)
    by_contra hj
    exact absurd (Finset.mem_filter.1 hk).2 (not_le.2 (h j (not_lt.1 hj)))
  refine (Finset.card_le_card hs).trans (Finset.card_image_le.trans ?_)
  rw [Fin.card_filter_val_lt]
  exact min_le_right _ _

/-- A value the first `i + 1` positions exceed has more than `i` entries above it. -/
theorem lt_above (i : Fin N) {a : EReal} (h : a < x (ord x i)) : i.val < above x a := by
  have hs : (Finset.univ.filter fun j : Fin N => j.val < i.val + 1).image (ord x) ⊆ Finset.univ.filter fun k => a < x k := by
    intro k hk
    obtain ⟨j, hj, rfl⟩ := Finset.mem_image.1 hk
    have hj : j.val < i.val + 1 := by simpa using hj
    simpa using h.trans_le (ord_le (x := x) (Fin.le_def.2 (Nat.lt_succ_iff.1 hj)))
  have := Finset.card_le_card hs
  rw [Finset.card_image_of_injective _ ord_injective, Fin.card_filter_val_lt] at this
  exact Nat.lt_of_lt_of_le (by have := i.isLt; omega) this

theorem lt_atLeast (i : Fin N) {a : EReal} (h : a ≤ x (ord x i)) : i.val < atLeast x a := by
  have hs : (Finset.univ.filter fun j : Fin N => j.val < i.val + 1).image (ord x) ⊆ Finset.univ.filter fun k => a ≤ x k := by
    intro k hk
    obtain ⟨j, hj, rfl⟩ := Finset.mem_image.1 hk
    have hj : j.val < i.val + 1 := by simpa using hj
    simpa using h.trans (ord_le (x := x) (Fin.le_def.2 (Nat.lt_succ_iff.1 hj)))
  have := Finset.card_le_card hs
  rw [Finset.card_image_of_injective _ ord_injective, Fin.card_filter_val_lt] at this
  exact Nat.lt_of_lt_of_le (by have := i.isLt; omega) this

/-- With no tie between positions `p` and `p + 1` of a positive value, a positive value with at most `p` entries above it
    has at most `p + 1` entries at or above it. -/
theorem atLeast_le_of_no_tie {p q : Fin N} (hq : q.val = p.val + 1) (h : x (ord x q) < x (ord x p) ∨ x (ord x p) ≤ 0)
    {a : EReal} (ha : 0 < a) (hab : above x a < q.val) : atLeast x a ≤ q.val := by
  by_contra hc
  have hqa : a ≤ x (ord x q) := by
    by_contra hl
    exact hc (atLeast_le q.val fun j hj => (ord_le (Fin.le_def.2 hj)).trans_lt (not_le.1 hl))
  have hpq : x (ord x q) ≤ x (ord x p) := ord_le (Fin.le_def.2 (by omega))
  have hlt : x (ord x q) < x (ord x p) := h.resolve_right (not_le.2 (ha.trans_le (hqa.trans hpq)))
  have := lt_above p (hqa.trans_lt hlt)
  omega

variable {l : Fin N → EReal}

theorem above_act {a : EReal} (ha : 0 < a) : above (fun k => act (l k)) (act a) = above l a :=
  congrArg Finset.card (Finset.filter_congr fun k _ =>
    ⟨fun h => not_le.1 fun hl => absurd h (not_lt.2 (act_monotone hl)), fun h => act_lt (ha.trans h) h⟩)

theorem atLeast_act {a : EReal} (ha : 0 < a) : atLeast (fun k => act (l k)) (act a) = atLeast l a :=
  congrArg Finset.card (Finset.filter_congr fun k _ =>
    ⟨fun h => not_lt.1 fun hl => absurd h (not_le.2 (act_lt ha hl)), fun h => act_monotone h⟩)

/-- What the first positions of the sorted activations put at each entry of a row of zeros. -/
theorem kept {p q : Fin N} (hq : q.val = p.val + 1) (hK : q.val = 30)
    (h : l (ord l q) < l (ord l p) ∨ l (ord l p) ≤ 0) (i : Fin N) :
    (if i.val < 30 then act (l (ord (fun k => act (l k)) i)) else 0)
      = if above l (l (ord (fun k => act (l k)) i)) < 30 then act (l (ord (fun k => act (l k)) i)) else 0 := by
  by_cases ha : 0 < l (ord (fun k => act (l k)) i)
  · have h1 : above l (l (ord (fun k => act (l k)) i)) ≤ i.val := by
      rw [← above_act ha]
      exact above_le (x := fun k => act (l k)) i.val fun j hj => ord_le (x := fun k => act (l k)) (Fin.le_def.2 hj)
    have h2 : i.val < atLeast l (l (ord (fun k => act (l k)) i)) := by
      rw [← atLeast_act ha]
      exact lt_atLeast (x := fun k => act (l k)) i le_rfl
    have h3 := fun hab => atLeast_le_of_no_tie hq h ha hab
    rw [hK] at h3
    exact if_congr ⟨fun hi => h1.trans_lt hi, fun hab => h2.trans_le (h3 hab)⟩ rfl rfl
  · rw [act_nonpos (not_lt.1 ha), ite_self, ite_self]

end Cert.SortedRow
-- ==== Proof.ReferenceAdj.lean ====
/- The reference's adjacency, read at an index over the extended reals: the thirty greatest activations of each row, written
   at their own columns of a matrix of zeros, are the activations with fewer than thirty logits above them. -/
module

public import proofs.«01_k».proof.Proof.SortedRow
public import proofs.«01_k».proof.Proof.Gen.ReferenceIdeal
public import proofs.«01_k».proof.Proof.Gen.Pre_no_tie_at_rank_k
public import Idealize.ShloMosaic.Lib.Routing.OpsSet
public import Idealize.ShloMosaic.Lib.Routing.OpsPair

@[expose] public section

set_option maxRecDepth 16384

noncomputable section

namespace Cert.ReferenceIdeal.Adj

open Cert.ReferenceIdeal Cert.ReferenceIdeal.Gen Cert.Rank Cert.Spec Cert.SortedRow
open Idealize.ShloMosaic Idealize.ShloMosaic.TcCoe Idealize.SL.Sem

section Sorted

variable {R N K : ℕ}

theorem along_row (j : (⟨2, ![R, N]⟩ : Shape).Idx) (k : Fin N) : j.along (1 : Fin 2) k = ix2 (j 0) k := by
  funext a
  match a with
  | ⟨0, _⟩ => rfl
  | ⟨1, _⟩ => rfl

/-- A sort of each row by decreasing value carries both operands to the row's order. -/
theorem sort_rows (x : FVec Ideal ⟨2, ![R, N]⟩ .f32) (y : IVec ⟨2, ![R, N]⟩ 32) :
    Host.sort2 ⟨2, ![R, N]⟩ 1 (fun l r => FloatOps.cmpfTotal (F := Ideal) .gt l.1 r.1) x y
      = (fun j => x (ix2 (j 0) (ord (fun k => x (ix2 (j 0) k)) (j 1))), fun j => y (ix2 (j 0) (ord (fun k => x (ix2 (j 0) k)) (j 1)))) := by
  have e : ∀ j : (⟨2, ![R, N]⟩ : Shape).Idx, (fun k : Fin N => x (j.along (1 : Fin 2) k)) = fun k => x (ix2 (j 0) k) := fun j =>
    funext fun k => congrArg x (along_row j k)
  have h : ∀ j : (⟨2, ![R, N]⟩ : Shape).Idx, j.along (1 : Fin 2) (ord (fun k : Fin N => x (j.along (1 : Fin 2) k)) (j 1))
      = ix2 (j 0) (ord (fun k => x (ix2 (j 0) k)) (j 1)) := fun j => by rw [e j]; exact along_row j _
  exact Prod.ext (funext fun j => congrArg x (h j)) (funext fun j => congrArg y (h j))

theorem slice_at (hs : (⟨2, ![R, N]⟩ : Shape).Slices (fun _ => 0) ⟨2, ![R, K]⟩) {α : Type} (x : (⟨2, ![R, N]⟩ : Shape).Idx → α)
    (r : Fin R) (i : Fin K) (hi : i.val < N) :
    extractStridedSlice ⟨2, ![R, K]⟩ (fun _ => 0) x hs (ix2 r i) = x (ix2 r ⟨i.val, hi⟩) :=
  congrArg x (by
    funext a
    apply Fin.ext
    match a with
    | ⟨0, _⟩ => exact Nat.zero_add _
    | ⟨1, _⟩ => exact Nat.zero_add _)

/-- The greatest entries of each row, -/
theorem topK_value (x : FVec Ideal ⟨2, ![R, N]⟩ .f32) (hs : (⟨2, ![R, N]⟩ : Shape).Slices (fun _ => 0) ⟨2, ![R, K]⟩)
    (r : Fin R) (i : Fin K) (hi : i.val < N) :
    (Host.topK ⟨2, ![R, K]⟩ 1 (FloatOps.cmpfTotal (F := Ideal) .gt) x hs).1 (ix2 r i) = x (ix2 r (ord (fun k => x (ix2 r k)) ⟨i.val, hi⟩)) := by
  unfold Host.topK
  dsimp only
  rw [slice_at hs _ r i hi, sort_rows]
  rfl

/-- and their columns. -/
theorem topK_column (x : FVec Ideal ⟨2, ![R, N]⟩ .f32) (hs : (⟨2, ![R, N]⟩ : Shape).Slices (fun _ => 0) ⟨2, ![R, K]⟩)
    (r : Fin R) (i : Fin K) (hi : i.val < N) :
    (Host.topK ⟨2, ![R, K]⟩ 1 (FloatOps.cmpfTotal (F := Ideal) .gt) x hs).2 (ix2 r i)
      = BitVec.ofNat 32 (ord (fun k => x (ix2 r k)) ⟨i.val, hi⟩).val := by
  unfold Host.topK
  dsimp only
  rw [slice_at hs _ r i hi, sort_rows]
  rfl

end Sorted

/-- The logits, as the reference forms them. -/
abbrev logitsOf (M₁ M₂ : FVec Ideal S2048x256 .f32) : FVec Ideal S2048x2048 .f32 :=
  subf (Host.dotGeneral dot_S2048x256_S256x2048_S2048x2048_1_0_0_1_n_n none M₁ (transpose S256x2048 [1, 0] M₂ transposes_S2048x256_S256x2048_1_0)) (Host.dotGeneral dot_S2048x256_S256x2048_S2048x2048_1_0_0_1_n_n none M₂ (transpose S256x2048 [1, 0] M₁ transposes_S2048x256_S256x2048_1_0))

theorem logitsOf_apply (M₁ M₂ : FVec Ideal S2048x256 .f32) (n j : Fin 2048) : logitsOf M₁ M₂ (ix2 n j) = logit M₁ M₂ n j := by
  pointwise [logitsOf, logit]

/-- The activations. -/
abbrev actsOf (l : FVec Ideal S2048x2048 .f32) : FVec Ideal S2048x2048 .f32 :=
  maximumf (Host.tanh (mulf (broadcastInDim S2048x2048 ![] bcast_S_S2048x2048 (constant S_ .f32 0x40400000#32)) l)) (broadcastInDim S2048x2048 ![] bcast_S_S2048x2048 (constant S_ .f32 0x00000000#32))

theorem actsOf_apply (l : FVec Ideal S2048x2048 .f32) (n j : Fin 2048) : actsOf l (ix2 n j) = act (l (ix2 n j)) := by
  pointwise [actsOf, act, ofBits_three]

/-- Where the scatter writes: the row's own number, -/
abbrev rowWords : IVec S2048x30x1 32 :=
  broadcastInDim S2048x30x1 ![0, 1] bcast_S2048x30_S2048x30x1_0_1 (broadcastInDim S2048x30 ![0, 1] bcast_S2048x1_S2048x30_0_1 (select (cmpi .slt (broadcastInDim S2048x1 ![0] bcast_S2048_S2048x1_0 (iotaInDim S2048 32 0)) (broadcastInDim S2048x1 ![] bcast_S_S2048x1 (constantI S_ 32 0#32))) (addi (broadcastInDim S2048x1 ![0] bcast_S2048_S2048x1_0 (iotaInDim S2048 32 0)) (broadcastInDim S2048x1 ![] bcast_S_S2048x1 (constantI S_ 32 2048#32))) (broadcastInDim S2048x1 ![0] bcast_S2048_S2048x1_0 (iotaInDim S2048 32 0))))

/-- and the column each entry came from. -/
abbrev colWords (y : IVec S2048x30 32) : IVec S2048x30x1 32 :=
  broadcastInDim S2048x30x1 ![0, 1] bcast_S2048x30_S2048x30x1_0_1 (select (cmpi .slt y (broadcastInDim S2048x30 ![] bcast_S_S2048x30 (constantI S_ 32 0#32))) (addi y (broadcastInDim S2048x30 ![] bcast_S_S2048x30 (constantI S_ 32 2048#32))) y)

abbrev words (y : IVec S2048x30 32) : IVec S2048x30x2 32 :=
  concatenate S2048x30x2 2 [⟨S2048x30x1, rowWords⟩, ⟨S2048x30x1, colWords y⟩] concatenates_S2048x30x1_S2048x30x1_S2048x30x2_d2

theorem rowWords_apply (n : Fin 2048) (i : Fin 30) :
    rowWords (ix3 n i 0) = Scalar.select (IntOp.cmpi .slt (BitVec.ofNat 32 n.val) 0#32) (IntOp.addi (BitVec.ofNat 32 n.val) 2048#32) (BitVec.ofNat 32 n.val) := by
  pointwise [rowWords]

theorem colWords_apply (y : IVec S2048x30 32) (n : Fin 2048) (i : Fin 30) :
    colWords y (ix3 n i 0) = Scalar.select (IntOp.cmpi .slt (y (ix2 n i)) 0#32) (IntOp.addi (y (ix2 n i)) 2048#32) (y (ix2 n i)) := by
  pointwise [colWords]

theorem words_row (y : IVec S2048x30 32) (n : Fin 2048) (i : Fin 30) : words y (ix3 n i 0) = rowWords (ix3 n i 0) := by
  pointwise [words]

theorem words_col (y : IVec S2048x30 32) (n : Fin 2048) (i : Fin 30) : words y (ix3 n i 1) = colWords y (ix3 n i 0) := by
  pointwise [words]

theorem wrap_toInt {k : ℕ} (hk : k < 2048) (a : BitVec 32) : (Scalar.select (IntOp.cmpi .slt (BitVec.ofNat 32 k) 0#32) a (BitVec.ofNat 32 k)).toInt = k := by
  rw [Routing.wrap_of_lt _ _ (by rw [BitVec.toNat_ofNat, Nat.mod_eq_of_lt (by omega)]; omega)]
  exact StableHlo.Predicate.toInt_ofNat_small _ (by omega)

/-- Entry `i` of a row's list is written at that row and at the column the sort took it from. -/
theorem lands (θ : FVec Ideal S2048x2048 .f32) (a r c : Fin 2048) (i : Fin 30) :
    scatter_S2048x2048_S2048x30x2_S2048x30_n_01_01_2.resultIdx? (ix2 a i) (words (Host.topK S2048x30 1 (FloatOps.cmpfTotal (F := Ideal) .gt) θ sliceFits_S2048x2048_S2048x30).2) = some (ix2 r c)
      ↔ a = r ∧ ord (fun k => θ (ix2 a k)) ⟨i.val, by omega⟩ = c := by
  refine (Routing.scatter_lands2 scatter_S2048x2048_S2048x30x2_S2048x30_n_01_01_2 rfl rfl rfl _ a i r c).trans ?_
  show (words _ (ix3 a i 0)).toInt = _ ∧ (words _ (ix3 a i 1)).toInt = _ ↔ _
  rw [words_row, words_col, rowWords_apply, colWords_apply, topK_column θ sliceFits_S2048x2048_S2048x30 a i (by omega),
    wrap_toInt a.isLt, wrap_toInt (Fin.isLt _), Nat.cast_inj, Nat.cast_inj, Fin.val_inj, Fin.val_inj]

theorem zeros_apply (j : S2048x2048.Idx) : (broadcastInDim S2048x2048 ![] bcast_S_S2048x2048 (constant (F := Ideal) S_ .f32 0x00000000#32)) j = 0 := by
  idx_vars j
  pointwise

/-- The greatest entries of each row in a matrix of zeros. -/
abbrev scattered (θ : FVec Ideal S2048x2048 .f32) : FVec Ideal S2048x2048 .f32 :=
  Host.scatter scatter_S2048x2048_S2048x30x2_S2048x30_n_01_01_2 (fun _ b => b) (broadcastInDim S2048x2048 ![] bcast_S_S2048x2048 (constant (F := Ideal) S_ .f32 0x00000000#32)) (words (Host.topK S2048x30 1 (FloatOps.cmpfTotal (F := Ideal) .gt) θ sliceFits_S2048x2048_S2048x30).2) (Host.topK S2048x30 1 (FloatOps.cmpfTotal (F := Ideal) .gt) θ sliceFits_S2048x2048_S2048x30).1

/-- The entry at sorted position `p` of its row is kept when `p` is below thirty. -/
theorem scattered_apply (θ : FVec Ideal S2048x2048 .f32) (n p : Fin 2048) :
    scattered θ (ix2 n (ord (fun k => θ (ix2 n k)) p)) = if p.val < 30 then θ (ix2 n (ord (fun k => θ (ix2 n k)) p)) else 0 := by
  by_cases hp : p.val < 30
  · rw [if_pos hp]
    refine Routing.scatter_set_hit _ _ _ _ _ _ (fun k hk => ?_) (ix2 n (⟨p.val, hp⟩ : Fin 30)) ((lands θ n n _ ⟨p.val, hp⟩).2 ⟨rfl, rfl⟩)
    idx_vars k
    obtain ⟨rfl, h⟩ := (lands θ _ _ _ _).1 hk
    rw [topK_value θ sliceFits_S2048x2048_S2048x30 _ _ (by omega), h]
  · rw [if_neg hp]
    refine (Routing.scatter_set_miss _ _ _ _ _ fun k hk => ?_).trans (zeros_apply _)
    idx_vars k
    obtain ⟨rfl, h⟩ := (lands θ _ _ _ _).1 hk
    have e := congrArg Fin.val (ord_injective h)
    dsimp only at e
    omega

/-- What the precondition says of a row of logits. -/
abbrev NoTie (l : Fin 2048 → EReal) : Prop := l (ord l 30) < l (ord l 29) ∨ l (ord l 29) ≤ 0

theorem scattered_acts (l : FVec Ideal S2048x2048 .f32) (n j : Fin 2048) (h : NoTie fun k => l (ix2 n k)) :
    scattered (actsOf l) (ix2 n j) = keep (fun k => l (ix2 n k)) j := by
  have e : (fun k => actsOf l (ix2 n k)) = fun k => act (l (ix2 n k)) := funext fun k => actsOf_apply l n k
  obtain ⟨p, rfl⟩ := ord_surjective (x := fun k => actsOf l (ix2 n k)) j
  rw [scattered_apply, actsOf_apply, e]
  exact kept (l := fun k => l (ix2 n k)) (p := 29) (q := 30) rfl rfl h p

/-- The reference's adjacency at an index. -/
theorem adjacency (M₁ M₂ : FVec Ideal S2048x256 .f32) (n j : Fin 2048) (h : NoTie (logit M₁ M₂ n)) :
    scattered (actsOf (logitsOf M₁ M₂)) (ix2 n j) = adj M₁ M₂ n j := by
  have e : (fun k => logitsOf M₁ M₂ (ix2 n k)) = logit M₁ M₂ n := funext fun k => logitsOf_apply M₁ M₂ n k
  rw [scattered_acts (logitsOf M₁ M₂) n j (by rw [e]; exact h), e, adj]

section Pre

open Cert.Pre_no_tie_at_rank_k Cert.Pre_no_tie_at_rank_k.Gen

theorem value29_apply (v : FVec Ideal Cert.Pre_no_tie_at_rank_k.S2048x31 .f32) (n : Fin 2048) :
    shapeCast Cert.Pre_no_tie_at_rank_k.S2048 (extractStridedSlice Cert.Pre_no_tie_at_rank_k.S2048x1 ![0, 29] v Cert.Pre_no_tie_at_rank_k.Gen.slices_S2048x31_S2048x1_0_29) Cert.Pre_no_tie_at_rank_k.Gen.shapeCasts_S2048x1_S2048 (ix1 n) = v (ix2 n 29) := by
  pointwise

theorem value30_apply (v : FVec Ideal Cert.Pre_no_tie_at_rank_k.S2048x31 .f32) (n : Fin 2048) :
    shapeCast Cert.Pre_no_tie_at_rank_k.S2048 (extractStridedSlice Cert.Pre_no_tie_at_rank_k.S2048x1 ![0, 30] v Cert.Pre_no_tie_at_rank_k.Gen.slices_S2048x31_S2048x1_0_30) Cert.Pre_no_tie_at_rank_k.Gen.shapeCasts_S2048x1_S2048 (ix1 n) = v (ix2 n 30) := by
  pointwise

theorem none_apply (j : Cert.Pre_no_tie_at_rank_k.S2048.Idx) :
    (broadcastInDim Cert.Pre_no_tie_at_rank_k.S2048 ![] Cert.Pre_no_tie_at_rank_k.Gen.bcast_S_S2048 (constant (F := Ideal) Cert.Pre_no_tie_at_rank_k.S_ .f32 0x00000000#32)) j = 0 := by
  idx_vars j
  pointwise

theorem or_of_ori {a b : EReal} (h : IntOp.ori (Ideal.cmp .ogt a b) (Ideal.cmp .ole a 0) = 1#1) : b < a ∨ a ≤ 0 := by
  by_contra hc
  obtain ⟨h1, h2⟩ := not_or.1 hc
  simp [Ideal.cmp, h1, h2, IntOp.ori] at h

/-- The precondition, read at a row. -/
theorem noTie (a0 a1 a2 a3) (M₁ M₂ : FVec Ideal Cert.Pre_no_tie_at_rank_k.S2048x256 .f32) (a6 a7)
    (h : Cert.Pre_no_tie_at_rank_k.fn (F := Ideal) a0 a1 a2 a3 M₁ M₂ a6 a7 = fun _ => 1#1) (n : Fin 2048) : NoTie (logit M₁ M₂ n) := by
  have h := congrFun h (ix1 n)
  have e : (fun k => logitsOf M₁ M₂ (ix2 n k)) = logit M₁ M₂ n := funext fun k => logitsOf_apply M₁ M₂ n k
  have h29 := topK_value (logitsOf M₁ M₂) Cert.Pre_no_tie_at_rank_k.Gen.sliceFits_S2048x2048_S2048x31 n 29 (by decide)
  have h30 := topK_value (logitsOf M₁ M₂) Cert.Pre_no_tie_at_rank_k.Gen.sliceFits_S2048x2048_S2048x31 n 30 (by decide)
  rw [e, logitsOf_apply] at h29 h30
  have h29 : _ = logit M₁ M₂ n (ord (logit M₁ M₂ n) 29) := h29
  have h30 : _ = logit M₁ M₂ n (ord (logit M₁ M₂ n) 30) := h30
  show logit M₁ M₂ n (ord (logit M₁ M₂ n) 30) < logit M₁ M₂ n (ord (logit M₁ M₂ n) 29) ∨ logit M₁ M₂ n (ord (logit M₁ M₂ n) 29) ≤ 0
  rw [← h29, ← h30]
  refine or_of_ori (Eq.trans ?_ h)
  unfold Cert.Pre_no_tie_at_rank_k.fn
  show _ = IntOp.ori (Ideal.cmp .ogt _ _) (Ideal.cmp .ole _ _)
  rw [value29_apply, value30_apply, none_apply]
  rfl

end Pre

end Cert.ReferenceIdeal.Adj

end
-- ==== Proof.ReferenceOut.lean ====
/- The reference's output, read at an index over the extended reals from any adjacency: the perceptron of the two features
   the normalised adjacency propagates. -/
module

public import proofs.«01_k».proof.Proof.ReferenceAdj
public import proofs.«01_k».proof.Proof.Gen.ReferenceIdeal.Run

@[expose] public section

set_option maxRecDepth 16384

noncomputable section

namespace Cert.ReferenceIdeal.Out

open Cert.ReferenceIdeal Cert.ReferenceIdeal.Gen Cert.Rank Cert.Spec
open Idealize.ShloMosaic Idealize.ShloMosaic.TcCoe Idealize.SL.Sem

/-- The row-normalised adjacency. -/
abbrev normOf (A : FVec Ideal S2048x2048 .f32) : FVec Ideal S2048x2048 .f32 :=
  Host.divf A (broadcastInDim S2048x2048 ![0, 1] bcast_S2048x1_S2048x2048_0_1 (addf (broadcastInDim S2048x1 ![0] bcast_S2048_S2048x1_0 (Host.reduceAdd A (constant S_ .f32 0x00000000#32) reducesTo_S2048x2048_S2048_d1 h_S_)) (broadcastInDim S2048x1 ![] bcast_S_S2048x1 (constant S_ .f32 0x322BCC77#32))))

theorem normOf_apply (A : FVec Ideal S2048x2048 .f32) (n k : Fin 2048) :
    normOf A (ix2 n k) = Ideal.div (A (ix2 n k)) ((∑ k', A (ix2 n k')) + Ideal.ofBits .f32 0x322BCC77#32) := by
  pointwise [normOf]

/-- The propagated features. -/
abbrev propOf (X : FVec Ideal S32x12x2048x2 .f32) (B : FVec Ideal S2048x2048 .f32) : FVec Ideal S32x12x2048x2 .f32 :=
  transpose S32x12x2048x2 [0, 1, 3, 2] (Host.dotGeneral dot_S32x12x2048x2_S2048x2048_S32x12x2x2048_2_1_013_0_n_n none X B) transposes_S32x12x2x2048_S32x12x2048x2_0_1_3_2

theorem propOf_apply (X : FVec Ideal S32x12x2048x2 .f32) (B : FVec Ideal S2048x2048 .f32) (b : Fin 32) (t : Fin 12) (n : Fin 2048) (f : Fin 2) :
    propOf X B (ix4 b t n f) = ∑ k, X (ix4 b t k f) * B (ix2 n k) := by
  pointwise [propOf]

/-- The two layers. -/
abbrev layersOf (Y : FVec Ideal S32x12x2048x2 .f32) (W₁ : FVec Ideal S2x64 .f32) (W₂ : FVec Ideal S64x2 .f32) : FVec Ideal S32x12x2048x2 .f32 :=
  Host.dotGeneral dot_S32x12x2048x64_S64x2_S32x12x2048x2_3_0_012_1_n_n none (Host.tanh (Host.dotGeneral dot_S32x12x2048x2_S2x64_S32x12x2048x64_3_0_012_1_n_n none Y W₁)) W₂

theorem layersOf_apply (Y : FVec Ideal S32x12x2048x2 .f32) (W₁ : FVec Ideal S2x64 .f32) (W₂ : FVec Ideal S64x2 .f32) (b : Fin 32) (t : Fin 12) (n : Fin 2048) (o : Fin 2) :
    layersOf Y W₁ W₂ (ix4 b t n o) = ∑ h : Fin 64, Ideal.tanh (∑ f : Fin 2, Y (ix4 b t n f) * W₁ (ix2 f h)) * W₂ (ix2 h o) := by
  pointwise [layersOf]

/-- The reference's output at an index, from its adjacency. -/
theorem output (X : FVec Ideal S32x12x2048x2 .f32) (A : FVec Ideal S2048x2048 .f32) (W₁ : FVec Ideal S2x64 .f32) (W₂ : FVec Ideal S64x2 .f32)
    (b : Fin 32) (t : Fin 12) (n : Fin 2048) (o : Fin 2) :
    layersOf (propOf X (normOf A)) W₁ W₂ (ix4 b t n o)
      = mlp (fun f h => W₁ (ix2 f h)) (fun h o => W₂ (ix2 h o)) (mix (fun k => A (ix2 n k)) fun k => X (ix4 b t k 0)) (mix (fun k => A (ix2 n k)) fun k => X (ix4 b t k 1)) o := by
  have hm : ∀ f : Fin 2, propOf X (normOf A) (ix4 b t n f) = mix (fun k => A (ix2 n k)) fun k => X (ix4 b t k f) := fun f =>
    (propOf_apply X _ b t n f).trans (Finset.sum_congr rfl fun k _ => by rw [normOf_apply, mul_comm])
  refine (layersOf_apply _ W₁ W₂ b t n o).trans (Finset.sum_congr rfl fun h _ => ?_)
  rw [Fin.sum_univ_two, hm, hm]

/-- Both results of arguments whose logits have no tie at rank thirty, as whole arrays. -/
theorem adjacency_array (M₁ M₂ : FVec Ideal S2048x256 .f32) (h : ∀ n, Adj.NoTie (logit M₁ M₂ n)) :
    Adj.scattered (Adj.actsOf (Adj.logitsOf M₁ M₂)) = fun i => adj M₁ M₂ (i 0) (i 1) := by
  funext i
  idx_vars i
  exact Adj.adjacency M₁ M₂ _ _ (h _)

theorem output_array (X : FVec Ideal S32x12x2048x2 .f32) (M₁ M₂ : FVec Ideal S2048x256 .f32) (W₁ : FVec Ideal S2x64 .f32) (W₂ : FVec Ideal S64x2 .f32)
    (h : ∀ n, Adj.NoTie (logit M₁ M₂ n)) :
    layersOf (propOf X (normOf (Adj.scattered (Adj.actsOf (Adj.logitsOf M₁ M₂))))) W₁ W₂ = fun i => out X M₁ M₂ W₁ W₂ (i 0) (i 1) (i 2) (i 3) := by
  rw [adjacency_array M₁ M₂ h]
  funext i
  idx_vars i
  exact output X _ W₁ W₂ _ _ _ _

end Cert.ReferenceIdeal.Out

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_no_tie_at_rank_k
public import proofs.«01_k».proof.Proof.BodyBits
public import proofs.«01_k».proof.Proof.BodyIdeal
public import proofs.«01_k».proof.Proof.KernelArrays
public import proofs.«01_k».proof.Proof.ReferenceOut
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to an end from every memory, changing no argument and leaving no counter raised: it is host
    operations only and the program declares no semaphore. -/
theorem reference_frame : Cert.quiescent_ReferenceIdeal := fun m ρ _ =>
  (θ_run Cert.ReferenceIdeal.defs _ _).mono
    (fun r h => ⟨fun c => (h c).2.2, sem_eq_zero_of_no_sems rfl r.2⟩) (Cert.ReferenceIdeal.Value.run m ρ)

/-- Both results of the reference are the kernel's, from arguments whose logits have no tie at rank thirty. -/
theorem same_results : Cert.algebraic_KernelIdeal_ReferenceIdeal_pre_no_tie_at_rank_k := fun m g m' g' hp ha => by
  refine ⟨Cert.KernelIdeal.Arrays.adjArr m, Cert.KernelIdeal.Arrays.outRes m, Cert.KernelIdeal.Arrays.run m g,
    (θ_run Cert.ReferenceIdeal.defs _ _).mono (fun r h c => ?_) (Cert.ReferenceIdeal.Value.run m' g')⟩
  obtain ⟨h0, -, -, -, h4, h5, h6, h7⟩ := ha c
  have ht := Cert.ReferenceIdeal.Adj.noTie _ _ _ _ _ _ _ _ (hp c)
  refine ⟨(h c).1.trans ?_, (h c).2.1.trans ?_, (h c).2.2⟩
  · rw [h4, h5]
    exact Cert.ReferenceIdeal.Out.adjacency_array _ _ ht
  · unfold Cert.ReferenceIdeal.Value.res_main_v37
    rw [h0, h4, h5, h6, h7]
    exact Cert.ReferenceIdeal.Out.output_array _ _ _ _ _ ht

theorem claim : Cert.Claim :=
  ⟨Cert.Kernel.Gen.facts, Cert.KernelIdeal.Gen.facts, Cert.ReferenceIdeal.Gen.facts, Cert.Pre_no_tie_at_rank_k.Gen.facts,
    fun m ρ _ => Cert.Kernel.Body.frame m ρ,
    fun m ρ _ => Cert.KernelIdeal.Body.frame m ρ,
    fun m ρ _ => Cert.KernelIdeal.Body.frame m ρ,
    reference_frame,
    fun m ρ _ => reference_frame m ρ trivial,
    trivial,
    same_results⟩

end Cert.Proof

end
